-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x50x128 : Shape := ⟨3, ![4096, 50, 128]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S4096x50x128 .f32) (main_arg1 : IVec S4096 32) : IVec S_ 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 50#32
  let main_v2 : IVec S4096 32 := broadcastInDim S4096 ![] bcast_S_S4096 main_c_0
  let main_v3 : IVec S4096 1 := cmpi .sle main_arg1 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Kernel.lean ====
abbrev S4096x50x128 : Shape := ⟨3, ![4096, 50, 128]⟩
abbrev S4096 : Shape := ⟨1, ![4096]⟩
abbrev S50x4096x128 : Shape := ⟨3, ![50, 4096, 128]⟩
abbrev S204800x128 : Shape := ⟨2, ![204800, 128]⟩
abbrev S4096x128 : Shape := ⟨2, ![4096, 128]⟩
abbrev S128 : Shape := ⟨1, ![128]⟩
abbrev S128x128 : Shape := ⟨2, ![128, 128]⟩
abbrev S_ : Shape := ⟨0, ![]⟩
abbrev S16 : Shape := ⟨1, ![16]⟩
abbrev S64 : Shape := ⟨1, ![64]⟩
abbrev S32x128 : Shape := ⟨2, ![32, 128]⟩
abbrev S32 : Shape := ⟨1, ![32]⟩

abbrev nBuf : Table → Nat
  | .hbm => 5
  | .local .scVector .vmem => 3
  | _ => 0

abbrev bufTy : (tb : Table) → Fin (nBuf tb) → BufTy
  | .hbm, ⟨0, _⟩ => ⟨S4096x50x128, .f32⟩
  | .hbm, ⟨1, _⟩ => ⟨S4096, .i32⟩
  | .hbm, ⟨2, _⟩ => ⟨S50x4096x128, .f32⟩
  | .hbm, ⟨3, _⟩ => ⟨S204800x128, .f32⟩
  | .hbm, ⟨4, _⟩ => ⟨S4096x128, .f32⟩
  | .local .scVector .vmem, ⟨0, _⟩ => ⟨S128, .i32⟩
  | .local .scVector .vmem, ⟨1, _⟩ => ⟨S128, .i32⟩
  | .local .scVector .vmem, ⟨2, _⟩ => ⟨S128x128, .f32⟩
  | _, _ => ⟨S4096x50x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v1_scv : Ref sig .scVector := ⟨.hbm, 3, rfl⟩
abbrev main_arg1_scv : Ref sig .scVector := ⟨.hbm, 1, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32 : BitVec 32 := 64#32
  let v8 : BitVec 32 := Scalar.addi v2 c64_i32
  ![v8.toNat]
def k0_off3 (i : grid0.Coords) (c0_i32_71 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v172 : BitVec 32 := Scalar.addi v2 c0_i32_71
  let c0_i32_74 : BitVec 32 := 0#32
  ![v172.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x50x128 : Shape := ⟨3, ![4096, 50, 128]⟩
abbrev S4096 : Shape := ⟨1, ![4096]⟩
abbrev S_ : Shape := ⟨0, ![]⟩
abbrev S4096x1x1 : Shape := ⟨3, ![4096, 1, 1]⟩
abbrev S1 : Shape := ⟨1, ![1]⟩
abbrev S1x1x1 : Shape := ⟨3, ![1, 1, 1]⟩
abbrev S4096x1 : Shape := ⟨2, ![4096, 1]⟩
abbrev S4096x1x128 : Shape := ⟨3, ![4096, 1, 128]⟩
abbrev S4096x128 : Shape := ⟨2, ![4096, 128]⟩

abbrev nBuf : Space → Nat
  | .hbm => 51
  | .vmem => 0
  | .smem => 0
  | _ => 0

abbrev bufTy : (tb : Table) → Fin (tcTables nBuf tb) → BufTy
  | .hbm, ⟨0, _⟩ => ⟨S4096x50x128, .f32⟩
  | .hbm, ⟨1, _⟩ => ⟨S4096, .i32⟩
  | .hbm, ⟨2, _⟩ => ⟨S_, .i32⟩
  | .hbm, ⟨3, _⟩ => ⟨S4096, .i32⟩
  | .hbm, ⟨4, _⟩ => ⟨S4096, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S_, .i32⟩
  | .hbm, ⟨20, _⟩ => ⟨S_, .i1⟩
  | .hbm, ⟨21, _⟩ => ⟨S4096, .i1⟩
  | .hbm, ⟨22, _⟩ => ⟨S4096, .i1⟩
  | .hbm, ⟨23, _⟩ => ⟨S4096, .i1⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S4096x1x1, .i32⟩
  | .hbm, ⟨28, _⟩ => ⟨S_, .i32⟩
  | .hbm, ⟨29, _⟩ => ⟨S4096x1x1, .i32⟩
  | .hbm, ⟨30, _⟩ => ⟨S4096x1x1, .i1⟩
  | .hbm, ⟨31, _⟩ => ⟨S_, .i32⟩
  | .hbm, ⟨32, _⟩ => ⟨S4096x1x1, .i32⟩
  | .hbm, ⟨33, _⟩ => ⟨S4096x1x1, .i32⟩
  | .hbm, ⟨34, _⟩ => ⟨S4096x1x1, .i32⟩
  | .hbm, ⟨35, _⟩ => ⟨S1, .i32⟩
  | .hbm, ⟨36, _⟩ => ⟨S_, .i32⟩
  | .hbm, ⟨37, _⟩ => ⟨S4096x1x1, .i32⟩
  | .hbm, ⟨38, _⟩ => ⟨S4096x1x1, .i1⟩
  | .hbm, ⟨39, _⟩ => ⟨S1x1x1, .i32⟩
  | .hbm, ⟨40, _⟩ => ⟨S4096x1x1, .i32⟩
  | .hbm, ⟨41, _⟩ => ⟨S4096x1x1, .i1⟩
  | .hbm, ⟨42, _⟩ => ⟨S4096x1x1, .i1⟩
  | .hbm, ⟨43, _⟩ => ⟨S_, .i1⟩
  | .hbm, ⟨44, _⟩ => ⟨S4096x1, .i1⟩
  | .hbm, ⟨45, _⟩ => ⟨S4096x1x128, .f32⟩
  | .hbm, ⟨46, _⟩ => ⟨S4096x1x128, .i1⟩
  | .hbm, ⟨47, _⟩ => ⟨S_, .f32⟩
  | .hbm, ⟨48, _⟩ => ⟨S4096x1x128, .f32⟩
  | .hbm, ⟨49, _⟩ => ⟨S4096x1x128, .f32⟩
  | .hbm, ⟨50, _⟩ => ⟨S4096x128, .f32⟩
  | _, _ => ⟨S4096x50x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v2 : Ref sig .tc := ⟨.hbm, 26, rfl⟩
abbrev main_v3 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_c_2 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_c_3 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_cst : Ref sig .tc := ⟨.hbm, 47, rfl⟩
abbrev main_call1_v14 : Ref sig .tc := ⟨.hbm, 48, rfl⟩
abbrev main_v4 : Ref sig .tc := ⟨.hbm, 49, rfl⟩
abbrev main_v5 : Ref sig .tc := ⟨.hbm, 50, rfl⟩

abbrev nD : Nat := 1
abbrev τ : Topo := Topo.v7x

variable {F : FTy → Type} [FloatOps F]
-- ==== Proof.Setup.lean ====
/-
  The launch of the row gather as the launch theorem sees it, and what every tile is handed.

  Tile `L = (SparseCore, subcore)` works on rows `256 * L 1 + 128 * L 0 …` of the result, 128 of them: it reads the same
  128 lengths in two halves, gathers four blocks of 32 rows and writes them to four blocks of the result. So a tile is
  handed its two halves of the lengths, four read shares of the table (its four gathers are in flight at once, each
  reading the whole table), and its four blocks of the result; it brings them back with the result's blocks at
  `gathered`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ShareLeaves
public import Idealize.ShloMosaic.Lib.ValueIdx
public import proofs.«01_k».proof.Proof.Gen.KernelIdeal
public import proofs.«01_k».proof.Proof.Gen.KernelIdeal.Skeleton

@[expose] public section

noncomputable section

namespace Cert.Proof.Rows

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev aLoc (d : Dev nD) : Loc nD τ sig := (SparseCore.T d).loc main_arg0
abbrev lLoc (d : Dev nD) : Loc nD τ sig := (SparseCore.T d).loc main_arg1
abbrev tLoc (d : Dev nD) : Loc nD τ sig := (SparseCore.T d).loc main_v0
abbrev xLoc (d : Dev nD) : Loc nD τ sig := (SparseCore.T d).loc main_v1
abbrev oLoc (d : Dev nD) : Loc nD τ sig := (SparseCore.T d).loc main_v2

local notation "xV" => (Memref.whole Cert.KernelIdeal.main_v1_scv : Memref Cert.KernelIdeal.sig Kind.scVector Space.hbm Cert.KernelIdeal.S204800x128 EltTy.f32)
local notation "lV" => (Memref.whole Cert.KernelIdeal.main_arg1_scv : Memref Cert.KernelIdeal.sig Kind.scVector Space.hbm Cert.KernelIdeal.S4096 EltTy.i32)
local notation "oV" => (Memref.whole Cert.KernelIdeal.main_v2_scv : Memref Cert.KernelIdeal.sig Kind.scVector Space.hbm Cert.KernelIdeal.S4096x128 EltTy.f32)
local notation "nV" => (Memref.whole Cert.KernelIdeal.cc0_scratch0 : Memref Cert.KernelIdeal.sig Kind.scVector Space.vmem Cert.KernelIdeal.S128 EltTy.i32)
local notation "iV" => (Memref.whole Cert.KernelIdeal.cc0_scratch1 : Memref Cert.KernelIdeal.sig Kind.scVector Space.vmem Cert.KernelIdeal.S128 EltTy.i32)
local notation "rV" => (Memref.whole Cert.KernelIdeal.cc0_scratch2 : Memref Cert.KernelIdeal.sig Kind.scVector Space.vmem Cert.KernelIdeal.S128x128 EltTy.f32)

/-! ## A tile's pieces of the arrays -/

abbrev cV (L : grid0.Coords) : Fin τ.nSC := (L 0).castLE hcore0
abbrev jV (L : grid0.Coords) : Fin τ.nSub := (L 1).castLE hsub0
/-- The vector subcore that runs tile `L`. -/
abbrev thr (d : Dev nD) (L : grid0.Coords) : Thread nD τ := V d (cV L) (jV L)

/-- The first row of tile `L`. -/
abbrev base (L : grid0.Coords) : ℕ := 256 * (L 1).val + 128 * (L 0).val

theorem L0_lt (L : grid0.Coords) : (L 0).val < 2 := (L 0).isLt
theorem L1_lt (L : grid0.Coords) : (L 1).val < 16 := (L 1).isLt
theorem base_lt (L : grid0.Coords) : base L + 128 ≤ 4096 := by have := L0_lt L; have := L1_lt L; unfold base; omega

/-- The two halves of tile `L`'s lengths and block `r` of its result, as the kernel addresses them. -/
abbrev lA (L : grid0.Coords) : Memref sig .scVector .hbm S64 .i32 :=
  (lV).slice (Rect.unit (s := S4096) (k0_off1 L) S64.size (k0_off1_inb L)) (fun _ => rfl)
abbrev lB (L : grid0.Coords) : Memref sig .scVector .hbm S64 .i32 :=
  (lV).slice (Rect.unit (s := S4096) (k0_off2 L) S64.size (k0_off2_inb L)) (fun _ => rfl)
abbrev oC (L : grid0.Coords) (r : Fin 4) : Memref sig .scVector .hbm S32x128 .f32 :=
  (oV).slice (Rect.unit (s := S4096x128) (k0_off3 L (BitVec.ofNat 32 (32 * r.val))) S32x128.size (k0_off3_inb L r)) (fun _ => rfl)

/-- Tile `L`'s share of the table for its gather `r`: one of the 128 leaves of the full share. -/
def tileIx : (Fin 2 × Fin 16) × Fin 4 ≃ Fin (2 ^ 7) := Fintype.equivFinOfCardEq (by decide)
def xq (L : grid0.Coords) (r : Fin 4) : PosShare TreeShare := ShareLeaves.leaf 7 fullShare (tileIx ((L 0, L 1), r))

/-! ## What a tile computes -/

/-- The row of the table that entry `b` of the result is: time step `(l - 1) mod 50` of row `b`, where `l` is its length,
    in the table that lists time step 0 of every row, then time step 1, … -/
def rowNo (l : BitVec 32) (b : Fin 4096) : Fin 204800 := ⟨(l.toNat + 49) % 50 * 4096 + b.val, by omega⟩

/-- The result from the lengths and the table. -/
def gathered (lf : S4096.Idx → BitVec 32) (xf : S204800x128.Idx → F .f32) : S4096x128.Idx → F .f32 :=
  fun y => xf (ix2 (rowNo (lf (ix1 (y 0))) (y 0)) (y 1))

/-! ## What a tile is handed and what it brings back -/

section Res

variable (d : Dev nD) (L : grid0.Coords) (lf : Buf (Elt F) (lLoc d)) (xf : Buf (Elt F) (xLoc d)) (of : Buf (Elt F) (oLoc d))

abbrev lAPts : sProp 𝕄 := lLoc d ↦[(lA L).view.set]{fullShare} lf
abbrev lBPts : sProp 𝕄 := lLoc d ↦[(lB L).view.set]{fullShare} lf
abbrev xPts (r : Fin 4) : sProp 𝕄 := xLoc d ↦{xq L r} xf
abbrev oPts (r : Fin 4) : sProp 𝕄 := oLoc d ↦[(oC L r).view.set]{fullShare} of

/-- A tile's operands, the result's blocks at `of`. -/
abbrev tileRes : sProp 𝕄 :=
  iprop((lAPts d L lf ∗ lBPts d L lf) ∗ (bigSep Finset.univ fun r : Fin 4 => xPts d L xf r) ∗ bigSep Finset.univ fun r : Fin 4 => oPts d L of r)

end Res

theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide),
    SparseCore.bigSep_insert' (by decide), SparseCore.bigSep_insert' (by decide), bigSep_singleton]

theorem bigSep_ten (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} by decide, SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-! ## A tile's own semaphores and buffers -/

/-- The ten transfer semaphores a tile has, in the kernel's order. -/
def tileSem : Fin 10 → SemLoc sig :=
  ![.dma cc0_scratch3.sem, .dma cc0_scratch4.sem, .dma cc0_scratch5.sem, .dma cc0_scratch6.sem, .dma cc0_scratch7.sem,
    .dma cc0_scratch8.sem, .dma cc0_scratch9.sem, .dma cc0_scratch10.sem, .dma cc0_scratch11.sem, .dma cc0_scratch12.sem]

theorem tileSem_injective : Function.Injective tileSem := by decide
theorem tileSem_scoped : ∀ k, (tileSem k).isScoped .scVector = true := by decide

/-- The same as cells of tile `L`'s subcore. -/
def tileCell (d : Dev nD) (L : grid0.Coords) : Fin 10 ↪ GSem nD τ sig :=
  ⟨fun k => (thr d L, tileSem k), fun _ _ e => tileSem_injective (Prod.mk.inj e).2⟩

theorem ownSems0_tile (d : Dev nD) (L : grid0.Coords) :
    (ownSems0 (thr d L) : sProp 𝕄)
      = iprop((semVal (thr d L, SemLoc.dma cc0_scratch3.sem) 0 ∗ semVal (thr d L, SemLoc.dma cc0_scratch4.sem) 0 ∗ semVal (thr d L, SemLoc.dma cc0_scratch5.sem) 0 ∗ semVal (thr d L, SemLoc.dma cc0_scratch6.sem) 0
          ∗ semVal (thr d L, SemLoc.dma cc0_scratch7.sem) 0 ∗ semVal (thr d L, SemLoc.dma cc0_scratch8.sem) 0 ∗ semVal (thr d L, SemLoc.dma cc0_scratch9.sem) 0
          ∗ semVal (thr d L, SemLoc.dma cc0_scratch10.sem) 0 ∗ semVal (thr d L, SemLoc.dma cc0_scratch11.sem) 0 ∗ semVal (thr d L, SemLoc.dma cc0_scratch12.sem) 0)
          ∗ bigSep (ownCells (thr d L) \ Finset.univ.map (tileCell d L)) fun g => semVal g 0) := by
  unfold SparseCore.Cfg.ownSems0
  have hsub : Finset.univ.map (tileCell d L) ⊆ ownCells (thr d L) := by
    intro g hg
    obtain ⟨k, -, rfl⟩ := Finset.mem_map.mp hg
    exact mem_ownCells.mpr ⟨rfl, tileSem_scoped k⟩
  have h := bigSep_sdiff_split (M := 𝕄) (Φ := fun g : GSem nD τ sig => (semVal g 0 : sProp 𝕄)) hsub
  rw [h, bigSep_map, bigSep_ten]
  rfl

theorem ownBufs_tile (d : Dev nD) (L : grid0.Coords) :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have ne {b b' : Ref sig .scVector} (h : b ≠ b') : (Proc.scVector (τ := τ) (cV L) (jV L)).devRef b ≠ (Proc.scVector (cV L) (jV L)).devRef b' :=
    fun e => h (Proc.devRef_injective _ e)
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨ne (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨ne (show (cc0_scratch2 : Ref sig .scVector) ≠ cc0_scratch1 by decide), Finset.mem_erase.mpr
      ⟨ne (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

end Cert.Proof.Rows

end
-- ==== Proof.Words.lean ====
/-
  What the words and rows of one tile are: the lengths it loads, the row numbers it writes, the rows its gathers fetch.
-/
module

public import proofs.«01_k».proof.Proof.Setup
public import Idealize.ShloMosaic.Lib.Writes
public import Idealize.ShloMosaic.Lib.Pipeline.Value

@[expose] public section

noncomputable section

namespace Cert.Proof.Rows

open Cert.KernelIdeal Cert.KernelIdeal.Gen

open Idealize.ShloMosaic Idealize.ShloMosaic.ValueIdx
open Idealize.SL Idealize.SL.RA Idealize.SL.BI
open scoped Idealize.SL.BI

variable {F : FTy → Type} [FloatOps F]

local notation "𝕄" => MT nD τ sig (SparseCore.Cfg.HIx 1) (Elt F) ℕ UU ℕ
local notation "xV" => (Memref.whole Cert.KernelIdeal.main_v1_scv : Memref Cert.KernelIdeal.sig Kind.scVector Space.hbm Cert.KernelIdeal.S204800x128 EltTy.f32)
local notation "oV" => (Memref.whole Cert.KernelIdeal.main_v2_scv : Memref Cert.KernelIdeal.sig Kind.scVector Space.hbm Cert.KernelIdeal.S4096x128 EltTy.f32)
local notation "nV" => (Memref.whole Cert.KernelIdeal.cc0_scratch0 : Memref Cert.KernelIdeal.sig Kind.scVector Space.vmem Cert.KernelIdeal.S128 EltTy.i32)
local notation "iV" => (Memref.whole Cert.KernelIdeal.cc0_scratch1 : Memref Cert.KernelIdeal.sig Kind.scVector Space.vmem Cert.KernelIdeal.S128 EltTy.i32)
local notation "rV" => (Memref.whole Cert.KernelIdeal.cc0_scratch2 : Memref Cert.KernelIdeal.sig Kind.scVector Space.vmem Cert.KernelIdeal.S128x128 EltTy.f32)

/-! ## One word -/

/-- The row number the kernel computes from a length, the first row of its group and a lane. -/
def word (l b t : BitVec 32) : BitVec 32 := Scalar.select (IntOp.cmpi .eq l 0#32) 49#32 (l - 1#32) * 4096#32 + b + t

theorem word_eq (l : BitVec 32) (b t : ℕ) (hl : l.toNat ≤ 50) (hb : b + t < 4096) :
    word l (BitVec.ofNat 32 b) (BitVec.ofNat 32 t) = BitVec.ofNat 32 ((l.toNat + 49) % 50 * 4096 + (b + t)) := by
  unfold word Scalar.select IntOp.cmpi
  apply BitVec.eq_of_toNat_eq
  by_cases h : l = 0#32
  · subst h
    simp
    omega
  · have h' : l.toNat ≠ 0 := fun e => h (BitVec.eq_of_toNat_eq e)
    have hc : ¬ BitVec.ofBool (l == 0#32) = 1 := by rw [beq_false_of_ne h]; decide
    rw [if_neg hc]
    simp only [BitVec.toNat_mul, BitVec.toNat_add, BitVec.toNat_sub, BitVec.toNat_ofNat]
    omega

/-! ## The tile's lists -/

section Lists

variable (L : grid0.Coords) (lf : S4096.Idx → BitVec 32) (xf : S204800x128.Idx → F .f32)

/-- Entry `p` of tile `L`, as a row of the result. -/
def entry (p : Fin 128) : Fin 4096 := ⟨base L + p.val, by have := base_lt L; omega⟩

/-- The tile's lengths, its row numbers, and the rows it fetches. -/
def lens : S128.Idx → BitVec 32 := fun y => lf (ix1 (entry L (y 0)))
def nums : S128.Idx → BitVec 32 := fun y => BitVec.ofNat 32 (rowNo (lens L lf y) (entry L (y 0))).val
def outs : S128x128.Idx → F .f32 := fun y => gathered lf xf (ix2 (entry L (y 0)) (y 1))

theorem nums_toNat (y : S128.Idx) : (nums L lf y).toNat = (rowNo (lens L lf y) (entry L (y 0))).val := by
  have := (rowNo (lens L lf y) (entry L (y 0))).isLt
  unfold nums
  rw [BitVec.toNat_ofNat]
  omega

/-- The first row of tile `L`, as the kernel computes it. -/
abbrev baseWord : BitVec 32 := Scalar.muli (Scalar.addi (Scalar.muli (BitVec.ofNat 32 (L 1).val) 2#32) (BitVec.ofNat 32 (L 0).val)) 128#32
abbrev lane : IVec S16 32 := iota .scVector S16 32 [0] iota_S16_d0_w32_scVector

theorem baseWord_eq : baseWord L = BitVec.ofNat 32 (base L) := by
  have := L0_lt L; have := L1_lt L
  unfold baseWord base Scalar.muli Scalar.addi IntOp.muli IntOp.addi
  apply BitVec.eq_of_toNat_eq
  simp only [BitVec.toNat_mul, BitVec.toNat_add, BitVec.toNat_ofNat]
  omega

theorem lane_apply (x : S16.Idx) : lane x = BitVec.ofNat 32 (x 0).val := by
  unfold lane
  rw [iota_single_apply]

variable {L lf} (hlf : ∀ j, (lf j).toNat ≤ 50)
include hlf

/-- The word at lane `x` of the group that starts at `o` is the row number there. -/
theorem word_nums (o : ℕ) (w : S16.Idx → BitVec 32) (hw : ∀ (x : S16.Idx) (y : S128.Idx), (y 0).val = o + (x 0).val → w x = lens L lf y)
    (x : S16.Idx) (y : S128.Idx) (hy : (y 0).val = o + (x 0).val) :
    word (w x) (baseWord L + BitVec.ofNat 32 o) (lane x) = nums L lf y := by
  have hb := base_lt L
  have h128 : (y 0).val < 128 := (y 0).isLt
  rw [hw x y hy, baseWord_eq, lane_apply, ← BitVec.ofNat_add, word_eq (lens L lf y) _ _ (hlf _) (by omega)]
  unfold nums rowNo entry
  simp only
  congr 2
  omega

theorem pay1_nums (w : Vec F S16 .i32) (hw : ∀ (x : S16.Idx) (y : S128.Idx), (y 0).val = 0 + (x 0).val → w x = lens L lf y)
    (x : S16.Idx) (y : S128.Idx) (hy : (y 0).val = 0 + (x 0).val) : k0_pay1 (F := F) L w x = nums L lf y := by
  refine Eq.trans ?_ (word_nums hlf 0 w hw x y hy)
  unfold k0_pay1; simp only [shapeCast_self]; rfl

theorem pay3_nums (w : Vec F S16 .i32) (hw : ∀ (x : S16.Idx) (y : S128.Idx), (y 0).val = 16 + (x 0).val → w x = lens L lf y)
    (x : S16.Idx) (y : S128.Idx) (hy : (y 0).val = 16 + (x 0).val) : k0_pay3 (baseWord L) lane (k0_pay2 (F := F) w) 0#32 x = nums L lf y := by
  refine Eq.trans ?_ (word_nums hlf 16 w hw x y hy)
  unfold k0_pay3 k0_pay2; simp only [shapeCast_self]; rfl

theorem pay4_nums (w : Vec F S16 .i32) (hw : ∀ (x : S16.Idx) (y : S128.Idx), (y 0).val = 32 + (x 0).val → w x = lens L lf y)
    (x : S16.Idx) (y : S128.Idx) (hy : (y 0).val = 32 + (x 0).val) : k0_pay4 (F := F) (baseWord L) lane w x = nums L lf y := by
  refine Eq.trans ?_ (word_nums hlf 32 w hw x y hy)
  unfold k0_pay4; simp only [shapeCast_self]; rfl

theorem pay7_nums (w : Vec F S16 .i32) (hw : ∀ (x : S16.Idx) (y : S128.Idx), (y 0).val = 48 + (x 0).val → w x = lens L lf y)
    (x : S16.Idx) (y : S128.Idx) (hy : (y 0).val = 48 + (x 0).val) : k0_pay7 (baseWord L) lane (k0_pay5 (F := F) w) k0_pay6 x = nums L lf y := by
  refine Eq.trans ?_ (word_nums hlf 48 w hw x y hy)
  unfold k0_pay7 k0_pay5 k0_pay6; simp only [shapeCast_self]; rfl

theorem pay8_nums (w : Vec F S16 .i32) (hw : ∀ (x : S16.Idx) (y : S128.Idx), (y 0).val = 64 + (x 0).val → w x = lens L lf y)
    (x : S16.Idx) (y : S128.Idx) (hy : (y 0).val = 64 + (x 0).val) : k0_pay8 (F := F) (baseWord L) lane w x = nums L lf y := by
  refine Eq.trans ?_ (word_nums hlf 64 w hw x y hy)
  unfold k0_pay8; simp only [shapeCast_self]; rfl

theorem pay9_nums (w : Vec F S16 .i32) (hw : ∀ (x : S16.Idx) (y : S128.Idx), (y 0).val = 80 + (x 0).val → w x = lens L lf y)
    (x : S16.Idx) (y : S128.Idx) (hy : (y 0).val = 80 + (x 0).val) : k0_pay9 (F := F) (baseWord L) lane w x = nums L lf y := by
  refine Eq.trans ?_ (word_nums hlf 80 w hw x y hy)
  unfold k0_pay9; simp only [shapeCast_self]; rfl

theorem pay10_nums (w : Vec F S16 .i32) (hw : ∀ (x : S16.Idx) (y : S128.Idx), (y 0).val = 96 + (x 0).val → w x = lens L lf y)
    (x : S16.Idx) (y : S128.Idx) (hy : (y 0).val = 96 + (x 0).val) : k0_pay10 (F := F) (baseWord L) lane w x = nums L lf y := by
  refine Eq.trans ?_ (word_nums hlf 96 w hw x y hy)
  unfold k0_pay10; simp only [shapeCast_self]; rfl

theorem pay11_nums (w : Vec F S16 .i32) (hw : ∀ (x : S16.Idx) (y : S128.Idx), (y 0).val = 112 + (x 0).val → w x = lens L lf y)
    (x : S16.Idx) (y : S128.Idx) (hy : (y 0).val = 112 + (x 0).val) : k0_pay11 (F := F) (baseWord L) lane w x = nums L lf y := by
  refine Eq.trans ?_ (word_nums hlf 112 w hw x y hy)
  unfold k0_pay11; simp only [shapeCast_self]; rfl

end Lists

/-! ## The lengths as the tile loads them -/

section Loads

variable (d : Dev nD) (L : grid0.Coords) (lf : Buf (Elt F) (lLoc d))

theorem read_lA (x : S64.Idx) (y : S128.Idx) (hy : (y 0).val = 0 + (x 0).val) :
    (ReadAs.same.apply ((lA L).view.read (Elt F) lf) : S64.Idx → BitVec 32) x = lens L lf y := by
  refine congrArg lf (funext fun a => Fin.ext ?_)
  have h := k0_off1_eq L
  match a with
  | ⟨0, _⟩ =>
    show k0_off1 L 0 + 1 * (x 0).val = base L + (y 0).val
    rw [h]; show 256 * (L 1).val + 128 * (L 0).val + 1 * (x 0).val = _
    unfold base; omega

theorem read_lB (x : S64.Idx) (y : S128.Idx) (hy : (y 0).val = 64 + (x 0).val) :
    (ReadAs.same.apply ((lB L).view.read (Elt F) lf) : S64.Idx → BitVec 32) x = lens L lf y := by
  refine congrArg lf (funext fun a => Fin.ext ?_)
  have h := k0_off2_eq L
  match a with
  | ⟨0, _⟩ =>
    show k0_off2 L 0 + 1 * (x 0).val = base L + (y 0).val
    rw [h]; show 256 * (L 1).val + 128 * (L 0).val + 64 + 1 * (x 0).val = _
    unfold base; omega

/-- A group of 16 lengths loaded from the scratch the two halves were copied into. -/
theorem load_lens (o : ℕ) (inb : ∀ a, (![o] : Fin 1 → ℕ) a + S16.size a ≤ S128.size a) (x : S16.Idx) (y : S128.Idx) (hy : (y 0).val = o + (x 0).val) :
    ((nV).view.readCov
      [⟨Rect.unit (s := S128) ![64] S64.size inb_S128_S64_64, ReadAs.same.apply ((lB L).view.read (Elt F) lf)⟩,
        ⟨Rect.unit (s := S128) ![0] S64.size inb_S128_S64_0, ReadAs.same.apply ((lA L).view.read (Elt F) lf)⟩]
      (Rect.unit (s := S128) ![o] S16.size inb).toLoadRect : S16.Idx → Elt F .i32) x = lens L lf y := by
  have e : (Rect.unit (s := S128) ![o] S16.size inb).toLoadRect.idx x = y := funext fun a => Fin.ext (by
    match a with
    | ⟨0, _⟩ => show o + 1 * (x 0).val = (y 0).val; omega)
  show (nV).view.read (Elt F) _ ((Rect.unit (s := S128) ![o] S16.size inb).toLoadRect.idx x) = _
  rw [e]
  refine View.read_writes_apply_of_pieces (Val := Elt F) (nV).view _ (lens L lf : S128.Idx → Elt F .i32) _ ?_ y ?_
  · intro p hp
    rcases List.mem_cons.mp hp with rfl | hp
    · exact fun x => read_lB d L lf x _ (by show 64 + 1 * (x 0).val = 64 + (x 0).val; omega)
    · rw [List.mem_singleton.mp hp]
      exact fun x => read_lA d L lf x _ (by show 0 + 1 * (x 0).val = 0 + (x 0).val; omega)
  · have h128 : (y 0).val < 128 := (y 0).isLt
    by_cases h : (y 0).val < 64
    · exact ⟨_, List.mem_cons_of_mem _ List.mem_cons_self, (Rect.mem_set_unit (inb := inb_S128_S64_0)).mpr fun a => by
        match a with
        | ⟨0, _⟩ => exact ⟨Nat.zero_le _, h⟩⟩
    · exact ⟨_, List.mem_cons_self, (Rect.mem_set_unit (inb := inb_S128_S64_64)).mpr fun a => by
        match a with
        | ⟨0, _⟩ => exact ⟨Nat.not_lt.mp h, h128⟩⟩

end Loads

/-! ## The row numbers as a gather reads them, the rows it fetches, and the result's block -/

section Rows

variable (d : Dev nD) (L : grid0.Coords) (lf : Buf (Elt F) (lLoc d)) (xf : Buf (Elt F) (xLoc d))

/-- 32 row numbers read back from the scratch two stores of 16 covered. -/
theorem read_nums (fi : (iV).view.ty.Contents (Elt F)) (ps : List (View.Piece (Elt F) S128 .i32)) (o : ℕ)
    (inb : ∀ a, (![o] : Fin 1 → ℕ) a + S32.size a ≤ S128.size a)
    (hps : ∀ p ∈ ps, ∀ x : p.1.shape.Idx, p.2 x = nums L lf (p.1.emb x))
    (hcov : ∀ y : S128.Idx, o ≤ (y 0).val → (y 0).val < o + 32 → ∃ p ∈ ps, y ∈ p.1.set)
    (x : S32.Idx) (y : S128.Idx) (hy : (y 0).val = o + (x 0).val) :
    (((iV).slice (Rect.unit (s := S128) ![o] S32.size inb) (fun _ => rfl)).view.read (Elt F) ((iV).view.writes (Elt F) fi ps) x : BitVec 32)
      = nums L lf y := by
  have e : (Rect.unit (s := S128) ![o] S32.size inb).emb x = y := funext fun a => Fin.ext (by
    match a with
    | ⟨0, _⟩ => show o + 1 * (x 0).val = (y 0).val; omega)
  have hx : (x 0).val < 32 := (x 0).isLt
  show (iV).view.read (Elt F) _ ((Rect.unit (s := S128) ![o] S32.size inb).emb x) = _
  rw [e]
  exact View.read_writes_apply_of_pieces (Val := Elt F) (iV).view _ (nums L lf : S128.Idx → Elt F .i32) _ hps y (hcov y (by omega) (by omega))

/-- An element of a list of pieces over a group of 16 that lies within it. -/
theorem mem_group (o : ℕ) (inb : ∀ a, (![o] : Fin 1 → ℕ) a + S16.size a ≤ S128.size a) (y : S128.Idx) (h : o ≤ (y 0).val) (h' : (y 0).val < o + 16) :
    y ∈ (Rect.unit (s := S128) ![o] S16.size inb).set := Rect.mem_set_unit.mpr fun a => by
  match a with
  | ⟨0, _⟩ => exact ⟨h, h'⟩

/-- The two newest groups of a list of pieces cover the 32 words from `o` on. -/
theorem cover_groups (o o' : ℕ) (ho : o' = o + 16) (inb : ∀ a, (![o] : Fin 1 → ℕ) a + S16.size a ≤ S128.size a)
    (inb' : ∀ a, (![o'] : Fin 1 → ℕ) a + S16.size a ≤ S128.size a) (w w' : S16.Idx → Elt F .i32) (ps : List (View.Piece (Elt F) S128 .i32))
    (y : S128.Idx) (h : o ≤ (y 0).val) (h' : (y 0).val < o + 32) :
    ∃ p ∈ (⟨Rect.unit (s := S128) ![o'] S16.size inb', w'⟩ :: ⟨Rect.unit (s := S128) ![o] S16.size inb, w⟩ :: ps : List (View.Piece (Elt F) S128 .i32)),
      y ∈ p.1.set := by
  by_cases hy : (y 0).val < o + 16
  · exact ⟨_, List.mem_cons_of_mem _ List.mem_cons_self, mem_group o inb y h hy⟩
  · exact ⟨_, List.mem_cons_self, mem_group o' inb' y (by omega) (by omega)⟩

/-- Every row number a gather reads is a row of the table. -/
theorem row_lt (o : ℕ) (ho : o + 32 ≤ 128) (ns : S32.Idx → Elt F .i32)
    (hns : ∀ (x : S32.Idx) (y : S128.Idx), (y 0).val = o + (x 0).val → (ns x : BitVec 32) = nums L lf y) (x : S32.Idx) :
    (ns x : BitVec 32).toNat < S204800x128.size (gathers_S204800x128_S32x128).axis := by
  have hx : (x 0).val < 32 := (x 0).isLt
  rw [hns x (ix1 (⟨o + (x 0).val, by omega⟩ : Fin 128)) rfl, nums_toNat]
  exact Fin.isLt _

/-- What a gather over the row numbers from `o` on fetches. -/
theorem gather_outs (o : ℕ) (ho : o + 32 ≤ 128) (h : ∀ a, (![0, 0] : Fin 2 → ℕ) a + S204800x128.size a ≤ S204800x128.size a)
    (ns : S32.Idx → Elt F .i32) (hin : ∀ x, (ns x : BitVec 32).toNat < S204800x128.size (gathers_S204800x128_S32x128).axis)
    (hns : ∀ (x : S32.Idx) (y : S128.Idx), (y 0).val = o + (x 0).val → (ns x : BitVec 32) = nums L lf y)
    (hn : S32.numel = S32x128.size (gathers_S204800x128_S32x128).axis')
    (z : S32x128.Idx) (y : S128x128.Idx) (hy0 : (y 0).val = o + (z 0).val) (hy1 : (y 1).val = (z 1).val) :
    SparseCore.gatherPayload gathers_S204800x128_S32x128
      (((xV).slice (Rect.unit (s := S204800x128) ![0, 0] S204800x128.size h) (fun _ => rfl)).view.read (Elt F) xf)
      (SparseCore.rows ns hn hin) z = outs L lf xf y := by
  have hr : ∀ k : Fin 32, (S32.rowMajor.symm (k.cast hn.symm)) = ix1 k := fun k => by
    rw [Equiv.symm_apply_eq]
    exact Fin.ext (Shape.rowMajor_val_one (ix1 k)).symm
  have hk : (SparseCore.rows ns hn hin (z 0)).val = (rowNo (lf (ix1 (entry L (y 0)))) (entry L (y 0))).val := by
    show (ns (S32.rowMajor.symm ((z 0).cast hn.symm)) : BitVec 32).toNat = _
    rw [hr (z 0), hns (ix1 (z 0)) (ix1 (y 0)) hy0, nums_toNat]
    rfl
  unfold SparseCore.gatherPayload outs gathered
  refine congrArg xf (funext fun a => Fin.ext ?_)
  match a with
  | ⟨0, _⟩ =>
    show 0 + 1 * ((gathers_S204800x128_S32x128).idx (SparseCore.rows ns hn hin) z (gathers_S204800x128_S32x128).axis).val = _
    rw [Shape.Gathers.idx_axis]
    refine Eq.trans ?_ hk
    show 0 + 1 * (SparseCore.rows ns hn hin (z 0)).val = _
    omega
  | ⟨1, _⟩ =>
    show 0 + 1 * ((gathers_S204800x128_S32x128).idx (SparseCore.rows ns hn hin) z 1).val = _
    rw [Shape.Gathers.idx_of_ne _ _ _ _ (by decide)]
    show 0 + 1 * (z 1).val = (y 1).val
    omega

/-- 32 fetched rows read back from the scratch the four gathers fill. -/
theorem read_outs (fr : (rV).view.ty.Contents (Elt F)) (ps : List (View.Piece (Elt F) S128x128 .f32)) (o : ℕ)
    (inb : ∀ a, (![o, 0] : Fin 2 → ℕ) a + S32x128.size a ≤ S128x128.size a)
    (hps : ∀ p ∈ ps, ∀ x : p.1.shape.Idx, p.2 x = outs L lf xf (p.1.emb x))
    (hcov : ∃ p ∈ ps, p.1 = Rect.unit (s := S128x128) ![o, 0] S32x128.size inb)
    (z : S32x128.Idx) (y : S128x128.Idx) (hy0 : (y 0).val = o + (z 0).val) (hy1 : (y 1).val = (z 1).val) :
    (ReadAs.same.apply (((rV).slice (Rect.unit (s := S128x128) ![o, 0] S32x128.size inb) (fun _ => rfl)).view.read (Elt F) ((rV).view.writes (Elt F) fr ps)) : S32x128.Idx → F .f32) z
      = outs L lf xf y := by
  have e : (Rect.unit (s := S128x128) ![o, 0] S32x128.size inb).emb z = y := funext fun a => Fin.ext (by
    match a with
    | ⟨0, _⟩ => show o + 1 * (z 0).val = (y 0).val; omega
    | ⟨1, _⟩ => show 0 + 1 * (z 1).val = (y 1).val; omega)
  show (rV).view.read (Elt F) _ ((Rect.unit (s := S128x128) ![o, 0] S32x128.size inb).emb z) = _
  obtain ⟨p, hp, hpr⟩ := hcov
  refine (View.read_writes_apply_of_pieces (rV).view _ (outs L lf xf) _ hps _ ⟨p, hp, ?_⟩).trans (by rw [e])
  rw [hpr]
  exact (Rect.unit (s := S128x128) ![o, 0] S32x128.size inb).toLoadRect.idx_mem z

/-- Block `r` of the result, once the fetched rows are written there. -/
theorem block_gathered (of : Buf (Elt F) (oLoc d)) (r : Fin 4) (w : S32x128.Idx → F .f32)
    (hw : ∀ (z : S32x128.Idx) (y : S128x128.Idx), (y 0).val = 32 * r.val + (z 0).val → (y 1).val = (z 1).val → w z = outs L lf xf y) :
    ((oC L r).view.loc (thr d L) ↦[(oC L r).view.set]{fullShare} (oC L r).view.writes (Elt F) of [⟨Rect.whole S32x128, w⟩] : sProp 𝕄)
      = oLoc d ↦[(oC L r).view.set]{fullShare} (gathered lf xf : Buf (Elt F) (oLoc d)) := by
  refine pointsTo_congr fun i hi => ?_
  obtain ⟨z, -, rfl⟩ := Finset.mem_map.mp hi
  have hb := base_lt L
  have hz : (z 0).val < 32 := (z 0).isLt
  have hr := r.isLt
  have e1 : (oC L r).view.read (Elt F) ((oC L r).view.writes (Elt F) of [⟨Rect.whole S32x128, w⟩]) z = w z :=
    View.read_writes_cons_hit_of_coords (oC L r).view of (Rect.whole S32x128) w [] z z fun a => by
      show (z a).val = 0 + 1 * (z a).val; omega
  refine Eq.trans ?_ (e1.trans ((hw z (ix2 (⟨32 * r.val + (z 0).val, by omega⟩ : Fin 128) (z 1)) rfl rfl).trans ?_))
  · rfl
  · unfold outs
    refine congrArg (gathered lf xf) (funext fun a => Fin.ext ?_)
    have h := k0_off3_eq L r
    match a with
    | ⟨0, _⟩ =>
      show base L + (32 * r.val + (z 0).val) = k0_off3 L (BitVec.ofNat 32 (32 * r.val)) 0 + 1 * (z 0).val
      rw [h]; show _ = 256 * (L 1).val + 128 * (L 0).val + 32 * r.val + 1 * (z 0).val
      unfold base; omega
    | ⟨1, _⟩ =>
      show (z 1).val = k0_off3 L (BitVec.ofNat 32 (32 * r.val)) 1 + 1 * (z 1).val
      rw [h]; show _ = 0 + 1 * (z 1).val
      omega

end Rows

end Cert.Proof.Rows

end
-- ==== Proof.Tile.lean ====
/-
  One tile's task, at a symbolic tile.
-/
module

public import proofs.«01_k».proof.Proof.Words

@[expose] public section

noncomputable section

namespace Cert.Proof.Rows

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_v1_scv : Memref Cert.KernelIdeal.sig Kind.scVector Space.hbm Cert.KernelIdeal.S204800x128 EltTy.f32)
local notation "lV" => (Memref.whole Cert.KernelIdeal.main_arg1_scv : Memref Cert.KernelIdeal.sig Kind.scVector Space.hbm Cert.KernelIdeal.S4096 EltTy.i32)
local notation "oV" => (Memref.whole Cert.KernelIdeal.main_v2_scv : Memref Cert.KernelIdeal.sig Kind.scVector Space.hbm Cert.KernelIdeal.S4096x128 EltTy.f32)
local notation "nV" => (Memref.whole Cert.KernelIdeal.cc0_scratch0 : Memref Cert.KernelIdeal.sig Kind.scVector Space.vmem Cert.KernelIdeal.S128 EltTy.i32)
local notation "iV" => (Memref.whole Cert.KernelIdeal.cc0_scratch1 : Memref Cert.KernelIdeal.sig Kind.scVector Space.vmem Cert.KernelIdeal.S128 EltTy.i32)
local notation "rV" => (Memref.whole Cert.KernelIdeal.cc0_scratch2 : Memref Cert.KernelIdeal.sig Kind.scVector Space.vmem Cert.KernelIdeal.S128x128 EltTy.f32)

section Body

variable (d : Dev nD) (L : grid0.Coords) (lf : Buf (Elt F) (lLoc d)) (xf : Buf (Elt F) (xLoc d)) (of : Buf (Elt F) (oLoc d))

theorem pts_lA : ((lA L).view.loc (thr d L) ↦[(lA L).view.set]{fullShare} lf : sProp 𝕄) = lAPts d L lf := rfl
theorem pts_lB : ((lB L).view.loc (thr d L) ↦[(lB L).view.set]{fullShare} lf : sProp 𝕄) = lBPts d L lf := rfl
theorem pts_x (r : Fin 4) : ((xV).view.loc (thr d L) ↦{xq L r} xf : sProp 𝕄) = xPts d L xf r := rfl
theorem pts_o (r : Fin 4) : ((oC L r).view.loc (thr d L) ↦[(oC L r).view.set]{fullShare} of : sProp 𝕄) = oPts d L of r := rfl
theorem pts_n (f : Buf (Elt F) ((thr d L).loc cc0_scratch0)) :
    ((nV).view.loc (thr d L) ↦{fullShare} f : sProp 𝕄) = (thr d L).loc cc0_scratch0 ↦{fullShare} f := rfl
theorem pts_i (f : Buf (Elt F) ((thr d L).loc cc0_scratch1)) :
    ((iV).view.loc (thr d L) ↦{fullShare} f : sProp 𝕄) = (thr d L).loc cc0_scratch1 ↦{fullShare} f := rfl
theorem pts_r (f : Buf (Elt F) ((thr d L).loc cc0_scratch2)) :
    ((rV).view.loc (thr d L) ↦{fullShare} f : sProp 𝕄) = (thr d L).loc cc0_scratch2 ↦{fullShare} f := rfl

set_option sl_exec.dmaWindow true in
set_option sl_exec.dmaWindowSet true in
set_option sl_exec.dmaWindowLent true in
set_option maxHeartbeats 4000000 in
theorem tile_body (hF : (K (F := F)).Facts) (hlf : ∀ j, (lf j : BitVec 32).toNat ≤ 50)
    (O : CellTallies nD τ sig (HIx 1)) (W : Waits sig (HIx 1)) (hO : ∀ g, O g none = 0) :
    iprop(levAts (K (F := F)).L (K (F := F)).lev ∗ emp ∗ tileRes d L lf xf of
        ∗ scopedBufs (thr d L) ∗ scopedSems0 (thr d L) ∗ owes (thr d L) O W)
      ⊢ wp frame (wpE (defs₀ (F := F)) 𝒱₀ (thr d L) none) Set.univ
          (cc0_fused_gather L xV (Memref.isWhole_whole _) lV (Memref.isWhole_whole _) oV (Memref.isWhole_whole _)
            nV (Memref.isWhole_whole _) iV (Memref.isWhole_whole _) rV (Memref.isWhole_whole _)
            cc0_scratch3 cc0_scratch4 cc0_scratch5 cc0_scratch6 cc0_scratch7 cc0_scratch8 cc0_scratch9 cc0_scratch10 cc0_scratch11 cc0_scratch12)
          fun _ => iprop(tileRes d L lf xf (gathered lf xf)
            ∗ scopedBufs (thr d L) ∗ scopedSems0 (thr d L)
            ∗ ∃ W', ⌜∀ p ∈ W', p ∈ W ∨ p.2 = none⌝ ∗ owes (thr d L) O W') := by
  simp only [cc0_fused_gather_eq_skeleton, k0_part1_eq_skeleton, k0_part2_eq_skeleton, k0_part3_eq_skeleton, k0_part4_eq_skeleton, k0_part5_eq_skeleton, k0_part6_eq_skeleton]
  unfold cc0_fused_gather_skel
  simp only [k0_part1_eq_skeleton, k0_part2_eq_skeleton, k0_part3_eq_skeleton, k0_part4_eq_skeleton, k0_part5_eq_skeleton, k0_part6_eq_skeleton]
  rw [(K (F := F)).scopedBufs_V hF d (cV L) (jV L), SparseCore.Cfg.scopedSems0_V (Val := Elt F) d (cV L) (jV L), ownSems0_tile, ownBufs_tile]
  unfold tileRes
  simp only [bigSep_four]
  iintro ⟨#Hlv, -, ⟨⟨HlA, HlB⟩, ⟨Hx0, Hx1, Hx2, Hx3⟩, Ho0, Ho1, Ho2, Ho3⟩, ⟨⟨%fn, Hn⟩, ⟨%fi, Hi⟩, ⟨%fr, Hr⟩, Hbufs⟩,
    ⟨⟨Hs0, Hs1, Hs2, Hs3, Hs4, Hs5, Hs6, Hs7, Hs8, Hs9⟩, Hsems⟩, HO⟩
  ihave Hmw := (show levAts (K (F := F)).L (K (F := F)).lev ⊢ Transfers.MayWaits (thr d L) (default : HIx 1) O from
    (K (F := F)).mayWaits_none (thr := thr d L) hO) $$ Hlv
  ihave HlA := (Entails.of_eq (pts_lA (F := F) d L _).symm) $$ HlA
  ihave HlB := (Entails.of_eq (pts_lB (F := F) d L _).symm) $$ HlB
  ihave Hx0 := (Entails.of_eq (pts_x (F := F) d L _ 0).symm) $$ Hx0
  ihave Hx1 := (Entails.of_eq (pts_x (F := F) d L _ 1).symm) $$ Hx1
  ihave Hx2 := (Entails.of_eq (pts_x (F := F) d L _ 2).symm) $$ Hx2
  ihave Hx3 := (Entails.of_eq (pts_x (F := F) d L _ 3).symm) $$ Hx3
  ihave Ho0 := (Entails.of_eq (pts_o (F := F) d L _ 0).symm) $$ Ho0
  ihave Ho1 := (Entails.of_eq (pts_o (F := F) d L _ 1).symm) $$ Ho1
  ihave Ho2 := (Entails.of_eq (pts_o (F := F) d L _ 2).symm) $$ Ho2
  ihave Ho3 := (Entails.of_eq (pts_o (F := F) d L _ 3).symm) $$ Ho3
  ihave Hn := (Entails.of_eq (pts_n (F := F) d L _).symm) $$ Hn
  ihave Hi := (Entails.of_eq (pts_i (F := F) d L _).symm) $$ Hi
  ihave Hr := (Entails.of_eq (pts_r (F := F) d L _).symm) $$ Hr
  sl_exec
  have hp0 : ∀ p ∈ tile_body.sl.Hi_2 d L lf, ∀ x : p.1.shape.Idx, p.2 x = nums L lf (p.1.emb x) := by
    intro p hp
    rcases List.mem_cons.mp hp with rfl | hp
    · exact fun x => pay3_nums hlf _ (load_lens d L lf 16 _) x _ (show 16 + 1 * (x 0).val = 16 + (x 0).val by omega)
    · obtain rfl := List.mem_singleton.mp hp
      exact fun x => pay1_nums hlf _ (load_lens d L lf 0 _) x _ (show 0 + 1 * (x 0).val = 0 + (x 0).val by omega)
  have hns0 := read_nums d L lf fi (tile_body.sl.Hi_2 d L lf) 0 inb_S128_S32_0 hp0 (cover_groups 0 _ rfl _ _ _ _ _)
  have hin0 : ∀ x, (((iV).slice (Rect.unit (s := S128) ![0] S32.size inb_S128_S32_0) (fun _ => rfl)).view.read (Elt F)
      ((iV).view.writes (Elt F) fi (tile_body.sl.Hi_2 d L lf)) x : BitVec 32).toNat < S204800x128.size (gathers_S204800x128_S32x128).axis :=
    fun x => row_lt d L lf 0 (by omega) _ hns0 x
  sl_exec
  have hp1 : ∀ p ∈ tile_body.sl.Hi_4 d L lf, ∀ x : p.1.shape.Idx, p.2 x = nums L lf (p.1.emb x) := by
    intro p hp
    rcases List.mem_cons.mp hp with rfl | hp
    · exact fun x => pay7_nums hlf _ (load_lens d L lf 48 _) x _ (show 48 + 1 * (x 0).val = 48 + (x 0).val by omega)
    rcases List.mem_cons.mp hp with rfl | hp
    · exact fun x => pay4_nums hlf _ (load_lens d L lf 32 _) x _ (show 32 + 1 * (x 0).val = 32 + (x 0).val by omega)
    · exact hp0 p hp
  have hns1 := read_nums d L lf fi (tile_body.sl.Hi_4 d L lf) 32 inb_S128_S32_32 hp1 (cover_groups 32 _ rfl _ _ _ _ _)
  have hin1 : ∀ x, (((iV).slice (Rect.unit (s := S128) ![32] S32.size inb_S128_S32_32) (fun _ => rfl)).view.read (Elt F)
      ((iV).view.writes (Elt F) fi (tile_body.sl.Hi_4 d L lf)) x : BitVec 32).toNat < S204800x128.size (gathers_S204800x128_S32x128).axis :=
    fun x => row_lt d L lf 32 (by omega) _ hns1 x
  sl_exec
  have hp2 : ∀ p ∈ tile_body.sl.Hi_6 d L lf, ∀ x : p.1.shape.Idx, p.2 x = nums L lf (p.1.emb x) := by
    intro p hp
    rcases List.mem_cons.mp hp with rfl | hp
    · exact fun x => pay9_nums hlf _ (load_lens d L lf 80 _) x _ (show 80 + 1 * (x 0).val = 80 + (x 0).val by omega)
    rcases List.mem_cons.mp hp with rfl | hp
    · exact fun x => pay8_nums hlf _ (load_lens d L lf 64 _) x _ (show 64 + 1 * (x 0).val = 64 + (x 0).val by omega)
    · exact hp1 p hp
  have hns2 := read_nums d L lf fi (tile_body.sl.Hi_6 d L lf) 64 inb_S128_S32_64 hp2 (cover_groups 64 _ rfl _ _ _ _ _)
  have hin2 : ∀ x, (((iV).slice (Rect.unit (s := S128) ![64] S32.size inb_S128_S32_64) (fun _ => rfl)).view.read (Elt F)
      ((iV).view.writes (Elt F) fi (tile_body.sl.Hi_6 d L lf)) x : BitVec 32).toNat < S204800x128.size (gathers_S204800x128_S32x128).axis :=
    fun x => row_lt d L lf 64 (by omega) _ hns2 x
  sl_exec
  have hp3 : ∀ p ∈ tile_body.sl.Hi_8 d L lf, ∀ x : p.1.shape.Idx, p.2 x = nums L lf (p.1.emb x) := by
    intro p hp
    rcases List.mem_cons.mp hp with rfl | hp
    · exact fun x => pay11_nums hlf _ (load_lens d L lf 112 _) x _ (show 112 + 1 * (x 0).val = 112 + (x 0).val by omega)
    rcases List.mem_cons.mp hp with rfl | hp
    · exact fun x => pay10_nums hlf _ (load_lens d L lf 96 _) x _ (show 96 + 1 * (x 0).val = 96 + (x 0).val by omega)
    · exact hp2 p hp
  have hns3 := read_nums d L lf fi (tile_body.sl.Hi_8 d L lf) 96 inb_S128_S32_96 hp3 (cover_groups 96 _ rfl _ _ _ _ _)
  have hin3 : ∀ x, (((iV).slice (Rect.unit (s := S128) ![96] S32.size inb_S128_S32_96) (fun _ => rfl)).view.read (Elt F)
      ((iV).view.writes (Elt F) fi (tile_body.sl.Hi_8 d L lf)) x : BitVec 32).toNat < S204800x128.size (gathers_S204800x128_S32x128).axis :=
    fun x => row_lt d L lf 96 (by omega) _ hns3 x
  sl_exec
  have hpr : ∀ p ∈ ([⟨Rect.unit (s := S128x128) ![96, 0] S32x128.size inb_S128x128_S32x128_96_0, tile_body.sl.gather0_3 d L lf xf fi hin3⟩,
        ⟨Rect.unit (s := S128x128) ![64, 0] S32x128.size inb_S128x128_S32x128_64_0, tile_body.sl.gather0_2 d L lf xf fi hin2⟩,
        ⟨Rect.unit (s := S128x128) ![32, 0] S32x128.size inb_S128x128_S32x128_32_0, tile_body.sl.gather0_1 d L lf xf fi hin1⟩,
        ⟨Rect.unit (s := S128x128) ![0, 0] S32x128.size inb_S128x128_S32x128_0_0, tile_body.sl.gather0 d L lf xf fi hin0⟩] : List (View.Piece (Elt F) S128x128 .f32)),
      ∀ x : p.1.shape.Idx, p.2 x = outs L lf xf (p.1.emb x) := by
    intro p hp
    rcases List.mem_cons.mp hp with rfl | hp
    · exact fun x => gather_outs d L lf xf 96 (by omega) inb_S204800x128_S204800x128_0_0 _ hin3 hns3 rfl x
        ((Rect.unit (s := S128x128) ![96, 0] S32x128.size inb_S128x128_S32x128_96_0).emb x)
        (show 96 + 1 * (x 0).val = 96 + (x 0).val by omega) (show 0 + 1 * (x 1).val = (x 1).val by omega)
    rcases List.mem_cons.mp hp with rfl | hp
    · exact fun x => gather_outs d L lf xf 64 (by omega) inb_S204800x128_S204800x128_0_0 _ hin2 hns2 rfl x
        ((Rect.unit (s := S128x128) ![64, 0] S32x128.size inb_S128x128_S32x128_64_0).emb x)
        (show 64 + 1 * (x 0).val = 64 + (x 0).val by omega) (show 0 + 1 * (x 1).val = (x 1).val by omega)
    rcases List.mem_cons.mp hp with rfl | hp
    · exact fun x => gather_outs d L lf xf 32 (by omega) inb_S204800x128_S204800x128_0_0 _ hin1 hns1 rfl x
        ((Rect.unit (s := S128x128) ![32, 0] S32x128.size inb_S128x128_S32x128_32_0).emb x)
        (show 32 + 1 * (x 0).val = 32 + (x 0).val by omega) (show 0 + 1 * (x 1).val = (x 1).val by omega)
    obtain rfl := List.mem_singleton.mp hp
    exact fun x => gather_outs d L lf xf 0 (by omega) inb_S204800x128_S204800x128_0_0 _ hin0 hns0 rfl x
        ((Rect.unit (s := S128x128) ![0, 0] S32x128.size inb_S128x128_S32x128_0_0).emb x)
        (show 0 + 1 * (x 0).val = 0 + (x 0).val by omega) (show 0 + 1 * (x 1).val = (x 1).val by omega)
  ihave Ho0 := (Entails.of_eq (block_gathered d L lf xf of 0 (tile_body.sl.dma0_2 d L lf xf fi fr hin0 hin1 hin2 hin3) fun z y h0 h1 =>
    read_outs d L lf xf fr _ 0 inb_S128x128_S32x128_0_0 hpr ⟨_, List.mem_cons_of_mem _ (List.mem_cons_of_mem _ (List.mem_cons_of_mem _ List.mem_cons_self)), rfl⟩ z y h0 h1)) $$ Ho0
  ihave Ho1 := (Entails.of_eq (block_gathered d L lf xf of 1 (tile_body.sl.dma0_3 d L lf xf fi fr hin0 hin1 hin2 hin3) fun z y h0 h1 =>
    read_outs d L lf xf fr _ 32 inb_S128x128_S32x128_32_0 hpr ⟨_, List.mem_cons_of_mem _ (List.mem_cons_of_mem _ List.mem_cons_self), rfl⟩ z y h0 h1)) $$ Ho1
  ihave Ho2 := (Entails.of_eq (block_gathered d L lf xf of 2 (tile_body.sl.dma0_4 d L lf xf fi fr hin0 hin1 hin2 hin3) fun z y h0 h1 =>
    read_outs d L lf xf fr _ 64 inb_S128x128_S32x128_64_0 hpr ⟨_, List.mem_cons_of_mem _ List.mem_cons_self, rfl⟩ z y h0 h1)) $$ Ho2
  ihave Ho3 := (Entails.of_eq (block_gathered d L lf xf of 3 (tile_body.sl.dma0_5 d L lf xf fi fr hin0 hin1 hin2 hin3) fun z y h0 h1 =>
    read_outs d L lf xf fr _ 96 inb_S128x128_S32x128_96_0 hpr ⟨_, List.mem_cons_self, rfl⟩ z y h0 h1)) $$ Ho3
  sl_step
  isplitl [HlA HlB Hx0 Hx1 Hx2 Hx3 Ho0 Ho1 Ho2 Ho3]
  · isplitl [HlA HlB]
    · isplitl [HlA]; · iexact HlA
      iexact HlB
    isplitl [Hx0 Hx1 Hx2 Hx3]
    · isplitl [Hx0]; · iexact Hx0
      isplitl [Hx1]; · iexact Hx1
      isplitl [Hx2]; · iexact Hx2
      iexact Hx3
    isplitl [Ho0]; · iexact Ho0
    isplitl [Ho1]; · iexact Ho1
    isplitl [Ho2]; · iexact Ho2
    iexact Ho3
  isplitl [Hn Hi Hr Hbufs]
  · isplitl [Hn]; · iexists _; iexact Hn
    isplitl [Hi]; · iexists _; iexact Hi
    isplitl [Hr]; · iexists _; iexact Hr
    iexact Hbufs
  isplitl [Hs0 Hs1 Hs2 Hs3 Hs4 Hs5 Hs6 Hs7 Hs8 Hs9 Hsems]
  · isplitr [Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      iexact Hs9
    iexact Hsems
  iexists _; isplitr
  swap; · iexact HO
  ipureintro; intro p hp
  iterate 10 (rcases Finset.mem_insert.mp hp with hp | hp; · exact .inr (hp ▸ rfl))
  exact .inl hp

end Body

end Cert.Proof.Rows

end
-- ==== Proof.Split.lean ====
/-
  The three arrays the call is handed, cut into what the 32 tiles work on, and joined again.
-/
module

public import proofs.«01_k».proof.Proof.Setup

@[expose] public section

noncomputable section

namespace Cert.Proof.Rows

open Cert.KernelIdeal Cert.KernelIdeal.Gen

open Idealize.ShloMosaic Idealize.ShloMosaic.ValueIdx
open Idealize.SL Idealize.SL.RA Idealize.SL.BI
open scoped Idealize.SL.BI
open Idealize.SL.BI.BIBase Idealize.SL.BI.Laws

variable {F : FTy → Type}

local notation "𝕄" => MT nD τ sig (SparseCore.Cfg.HIx 1) (Elt F) ℕ UU ℕ

/-- Tile `s` of SparseCore `c`, as the kernel's grid coordinates. -/
def coordsV (c : Fin (grid0.bound 0)) (s : Fin (grid0.bound 1)) : grid0.Coords :=
  fun | 0 => c | 1 => s | ⟨_ + 2, h⟩ => absurd h (Nat.not_lt.2 (Nat.le_add_left _ _))

abbrev tileOf (t : Fin 2 × Fin 16) : grid0.Coords := coordsV t.1 t.2

theorem base_tileOf (t : Fin 2 × Fin 16) : base (tileOf t) = 256 * t.2.val + 128 * t.1.val := rfl

/-! ## Which elements a piece holds -/

theorem mem_lA (L : grid0.Coords) (i : S4096.Idx) : i ∈ (lA L).view.set ↔ base L ≤ (i 0).val ∧ (i 0).val < base L + 64 := by
  have e : (lA L).view.set = (Rect.unit (s := S4096) (k0_off1 L) S64.size (k0_off1_inb L)).set := by
    show ((View.whole (main_arg1_scv : Ref sig .scVector)).slice _).set = _
    rw [View.set_slice]; exact Finset.map_refl
  rw [e, Rect.mem_set_unit]
  refine ⟨fun h => ?_, fun h a => ?_⟩
  · have h0 := h 0
    rw [k0_off1_eq L] at h0; exact h0
  · rw [k0_off1_eq L]
    match a with
    | ⟨0, _⟩ => exact h

theorem mem_lB (L : grid0.Coords) (i : S4096.Idx) : i ∈ (lB L).view.set ↔ base L + 64 ≤ (i 0).val ∧ (i 0).val < base L + 128 := by
  have e : (lB L).view.set = (Rect.unit (s := S4096) (k0_off2 L) S64.size (k0_off2_inb L)).set := by
    show ((View.whole (main_arg1_scv : Ref sig .scVector)).slice _).set = _
    rw [View.set_slice]; exact Finset.map_refl
  rw [e, Rect.mem_set_unit]
  refine ⟨fun h => ?_, fun h a => ?_⟩
  · have h0 := h 0
    rw [k0_off2_eq L] at h0; exact h0
  · rw [k0_off2_eq L]
    match a with
    | ⟨0, _⟩ => exact h

theorem mem_oC (L : grid0.Coords) (r : Fin 4) (i : S4096x128.Idx) :
    i ∈ (oC L r).view.set ↔ base L + 32 * r.val ≤ (i 0).val ∧ (i 0).val < base L + 32 * r.val + 32 := by
  have e : (oC L r).view.set = (Rect.unit (s := S4096x128) (k0_off3 L (BitVec.ofNat 32 (32 * r.val))) S32x128.size (k0_off3_inb L r)).set := by
    show ((View.whole (main_v2_scv : Ref sig .scVector)).slice _).set = _
    rw [View.set_slice]; exact Finset.map_refl
  rw [e, Rect.mem_set_unit]
  refine ⟨fun h => ?_, fun h a => ?_⟩
  · have h0 := h 0
    rw [k0_off3_eq L r] at h0; exact h0
  · rw [k0_off3_eq L r]
    match a with
    | ⟨0, _⟩ => exact h
    | ⟨1, _⟩ => exact ⟨Nat.zero_le _, by have h1 : (i 1).val < 128 := (i 1).isLt; show (i 1).val < 0 + 128; omega⟩

/-! ## The lengths: 64 halves -/

/-- Half `p.2` of tile `p.1`'s lengths. -/
def lHalf (p : (Fin 2 × Fin 16) × Fin 2) : Finset S4096.Idx := if p.2 = 0 then (lA (tileOf p.1)).view.set else (lB (tileOf p.1)).view.set

theorem mem_lHalf (p : (Fin 2 × Fin 16) × Fin 2) (i : S4096.Idx) :
    i ∈ lHalf p ↔ 256 * p.1.2.val + 128 * p.1.1.val + 64 * p.2.val ≤ (i 0).val ∧ (i 0).val < 256 * p.1.2.val + 128 * p.1.1.val + 64 * p.2.val + 64 := by
  obtain ⟨t, h⟩ := p
  unfold lHalf
  match h with
  | ⟨0, _⟩ => exact (mem_lA (tileOf t) i)
  | ⟨1, _⟩ => exact (mem_lB (tileOf t) i)

theorem lHalf_disjoint : ∀ p ∈ (Finset.univ : Finset ((Fin 2 × Fin 16) × Fin 2)), ∀ p' ∈ (Finset.univ : Finset ((Fin 2 × Fin 16) × Fin 2)),
    p ≠ p' → Disjoint (lHalf p) (lHalf p') := by
  intro p _ p' _ h
  refine Finset.disjoint_left.mpr fun i hi hi' => h ?_
  rw [mem_lHalf] at hi hi'
  obtain ⟨⟨c, s⟩, b⟩ := p
  obtain ⟨⟨c', s'⟩, b'⟩ := p'
  have hc := c.isLt; have hc' := c'.isLt; have hb := b.isLt; have hb' := b'.isLt
  have hi1 : 256 * s.val + 128 * c.val + 64 * b.val ≤ (i 0).val := hi.1
  have hi2 : (i 0).val < 256 * s.val + 128 * c.val + 64 * b.val + 64 := hi.2
  have hi3 : 256 * s'.val + 128 * c'.val + 64 * b'.val ≤ (i 0).val := hi'.1
  have hi4 : (i 0).val < 256 * s'.val + 128 * c'.val + 64 * b'.val + 64 := hi'.2
  have e1 : s = s' := Fin.ext (by omega)
  have e2 : c = c' := Fin.ext (by omega)
  have e3 : b = b' := Fin.ext (by omega)
  rw [e1, e2, e3]

theorem lHalf_cover : (Finset.univ : Finset ((Fin 2 × Fin 16) × Fin 2)).biUnion lHalf = Finset.univ := by
  refine Finset.eq_univ_iff_forall.mpr fun i => Finset.mem_biUnion.mpr ?_
  have hi : (i 0).val < 4096 := (i 0).isLt
  refine ⟨((⟨(i 0).val / 128 % 2, by omega⟩, ⟨(i 0).val / 256, by omega⟩), ⟨(i 0).val / 64 % 2, by omega⟩), Finset.mem_univ _, ?_⟩
  rw [mem_lHalf]
  show 256 * ((i 0).val / 256) + 128 * ((i 0).val / 128 % 2) + 64 * ((i 0).val / 64 % 2) ≤ (i 0).val
    ∧ (i 0).val < 256 * ((i 0).val / 256) + 128 * ((i 0).val / 128 % 2) + 64 * ((i 0).val / 64 % 2) + 64
  omega

theorem lengths_tiles (d : Dev nD) (f : Buf (Elt F) (lLoc d)) :
    (lLoc d ↦{fullShare} f : sProp 𝕄) = bigSep Finset.univ fun t : Fin 2 × Fin 16 => iprop(lAPts d (tileOf t) f ∗ lBPts d (tileOf t) f) := by
  have h : (lLoc d ↦{fullShare} f : sProp 𝕄) = bigSep Finset.univ fun p : (Fin 2 × Fin 16) × Fin 2 => lLoc d ↦[lHalf p]{fullShare} f := by
    rw [← pointsTo_biUnion Finset.univ (ℓ := lLoc d) lHalf lHalf_disjoint, lHalf_cover]
  rw [h, bigSep_univ_prod]
  exact bigSep_congr fun t _ => bigSep_fin_two _

/-! ## The table: 128 shares -/

theorem table_tiles (d : Dev nD) (f : Buf (Elt F) (xLoc d)) :
    (xLoc d ↦{fullShare} f : sProp 𝕄)
      = bigSep Finset.univ fun t : Fin 2 × Fin 16 => bigSep Finset.univ fun r : Fin 4 => xPts d (tileOf t) f r := by
  have h : (xLoc d ↦{fullShare} f : sProp 𝕄) = bigSep Finset.univ fun i : Fin (2 ^ 7) => xLoc d ↦{ShareLeaves.leaf 7 fullShare i} f :=
    ShareLeaves.pointsTo_leaves Finset.univ f 7 fullShare
  rw [h, bigSep_univ_equiv tileIx, bigSep_univ_prod]
  rfl

/-! ## The result: 128 blocks -/

/-- Block `p.2` of tile `p.1`'s rows of the result. -/
def oBlock (p : (Fin 2 × Fin 16) × Fin 4) : Finset S4096x128.Idx := (oC (tileOf p.1) p.2).view.set

theorem mem_oBlock (p : (Fin 2 × Fin 16) × Fin 4) (i : S4096x128.Idx) :
    i ∈ oBlock p ↔ 256 * p.1.2.val + 128 * p.1.1.val + 32 * p.2.val ≤ (i 0).val ∧ (i 0).val < 256 * p.1.2.val + 128 * p.1.1.val + 32 * p.2.val + 32 :=
  mem_oC (tileOf p.1) p.2 i

theorem oBlock_disjoint : ∀ p ∈ (Finset.univ : Finset ((Fin 2 × Fin 16) × Fin 4)), ∀ p' ∈ (Finset.univ : Finset ((Fin 2 × Fin 16) × Fin 4)),
    p ≠ p' → Disjoint (oBlock p) (oBlock p') := by
  intro p _ p' _ h
  refine Finset.disjoint_left.mpr fun i hi hi' => h ?_
  rw [mem_oBlock] at hi hi'
  obtain ⟨⟨c, s⟩, b⟩ := p
  obtain ⟨⟨c', s'⟩, b'⟩ := p'
  have hc := c.isLt; have hc' := c'.isLt; have hb := b.isLt; have hb' := b'.isLt
  have hi1 : 256 * s.val + 128 * c.val + 32 * b.val ≤ (i 0).val := hi.1
  have hi2 : (i 0).val < 256 * s.val + 128 * c.val + 32 * b.val + 32 := hi.2
  have hi3 : 256 * s'.val + 128 * c'.val + 32 * b'.val ≤ (i 0).val := hi'.1
  have hi4 : (i 0).val < 256 * s'.val + 128 * c'.val + 32 * b'.val + 32 := hi'.2
  have e1 : s = s' := Fin.ext (by omega)
  have e2 : c = c' := Fin.ext (by omega)
  have e3 : b = b' := Fin.ext (by omega)
  rw [e1, e2, e3]

theorem oBlock_cover : (Finset.univ : Finset ((Fin 2 × Fin 16) × Fin 4)).biUnion oBlock = Finset.univ := by
  refine Finset.eq_univ_iff_forall.mpr fun i => Finset.mem_biUnion.mpr ?_
  have hi : (i 0).val < 4096 := (i 0).isLt
  refine ⟨((⟨(i 0).val / 128 % 2, by omega⟩, ⟨(i 0).val / 256, by omega⟩), ⟨(i 0).val / 32 % 4, by omega⟩), Finset.mem_univ _, ?_⟩
  rw [mem_oBlock]
  show 256 * ((i 0).val / 256) + 128 * ((i 0).val / 128 % 2) + 32 * ((i 0).val / 32 % 4) ≤ (i 0).val
    ∧ (i 0).val < 256 * ((i 0).val / 256) + 128 * ((i 0).val / 128 % 2) + 32 * ((i 0).val / 32 % 4) + 32
  omega

theorem result_tiles (d : Dev nD) (f : Buf (Elt F) (oLoc d)) :
    (oLoc d ↦{fullShare} f : sProp 𝕄)
      = bigSep Finset.univ fun t : Fin 2 × Fin 16 => bigSep Finset.univ fun r : Fin 4 => oPts d (tileOf t) f r := by
  have h : (oLoc d ↦{fullShare} f : sProp 𝕄) = bigSep Finset.univ fun p : (Fin 2 × Fin 16) × Fin 4 => oLoc d ↦[oBlock p]{fullShare} f := by
    rw [← pointsTo_biUnion Finset.univ (ℓ := oLoc d) oBlock oBlock_disjoint, oBlock_cover]
  rw [h, bigSep_univ_prod]
  rfl

/-- The three arrays whole are what the tiles are handed, all of it. -/
theorem arrays_tiles (d : Dev nD) (lf : Buf (Elt F) (lLoc d)) (xf : Buf (Elt F) (xLoc d)) (of : Buf (Elt F) (oLoc d)) :
    iprop((lLoc d ↦{fullShare} lf) ∗ (xLoc d ↦{fullShare} xf) ∗ oLoc d ↦{fullShare} of : sProp 𝕄)
      = bigSep Finset.univ fun c : Fin 2 => bigSep Finset.univ fun s : Fin 16 => tileRes d (coordsV c s) lf xf of := by
  rw [lengths_tiles, table_tiles, result_tiles, ← bigSep_sep', ← bigSep_sep', bigSep_univ_prod]

end Cert.Proof.Rows

end
-- ==== Proof.Launch.lean ====
/-
  The launch: @main lists the rows by time step, hands the lengths, that table and the result's array to the 32 tiles,
  and gets them back with the result gathered.
-/
module

public import proofs.«01_k».proof.Proof.Tile
public import proofs.«01_k».proof.Proof.Split

@[expose] public section

noncomputable section

namespace Cert.Proof.Rows

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

local notation "xV" => (Memref.whole Cert.KernelIdeal.main_v1_scv : Memref Cert.KernelIdeal.sig Kind.scVector Space.hbm Cert.KernelIdeal.S204800x128 EltTy.f32)
local notation "lV" => (Memref.whole Cert.KernelIdeal.main_arg1_scv : Memref Cert.KernelIdeal.sig Kind.scVector Space.hbm Cert.KernelIdeal.S4096 EltTy.i32)
local notation "oV" => (Memref.whole Cert.KernelIdeal.main_v2_scv : Memref Cert.KernelIdeal.sig Kind.scVector Space.hbm Cert.KernelIdeal.S4096x128 EltTy.f32)
local notation "nV" => (Memref.whole Cert.KernelIdeal.cc0_scratch0 : Memref Cert.KernelIdeal.sig Kind.scVector Space.vmem Cert.KernelIdeal.S128 EltTy.i32)
local notation "iV" => (Memref.whole Cert.KernelIdeal.cc0_scratch1 : Memref Cert.KernelIdeal.sig Kind.scVector Space.vmem Cert.KernelIdeal.S128 EltTy.i32)
local notation "rV" => (Memref.whole Cert.KernelIdeal.cc0_scratch2 : Memref Cert.KernelIdeal.sig Kind.scVector Space.vmem Cert.KernelIdeal.S128x128 EltTy.f32)

variable (m : (ℓ : Loc nD τ sig) → Buf (Elt F) ℓ) (ρ : Dev nD → PrngReg)

/-! ## What @main computes before the call -/

/-- The table: time step 0 of every row, then time step 1, … -/
def table (xs : S4096x50x128.Idx → F .f32) : S204800x128.Idx → F .f32 :=
  shapeCast S204800x128 (transpose S50x4096x128 [1, 0, 2] xs transposes_S4096x50x128_S50x4096x128_1_0_2) shapeCasts_S50x4096x128_S204800x128

/-- The table of device `d`'s launch memory, and the result over it. -/
def tab (d : Dev nD) : Buf (Elt F) (xLoc d) := table (m (aLoc d))
def res (d : Dev nD) : Buf (Elt F) (oLoc d) := gathered (m (lLoc d)) (tab m d)

/-! ## What the handshakes carry -/

/-- Tile `s` of SparseCore `c`: its operands before, and after. -/
abbrev tileGo (d : Dev nD) (c : Fin 2) (s : Fin 16) : sProp 𝕄 := tileRes d (coordsV c s) (m (lLoc d)) (tab m d) (m (oLoc d))
abbrev tileTd (d : Dev nD) (c : Fin 2) (s : Fin 16) : sProp 𝕄 := tileRes d (coordsV c s) (m (lLoc d)) (tab m d) (res m d)
abbrev coreGo (d : Dev nD) (c : Fin 2) : sProp 𝕄 := bigSep Finset.univ fun s : Fin 16 => tileGo m d c s
abbrev coreTd (d : Dev nD) (c : Fin 2) : sProp 𝕄 := bigSep Finset.univ fun s : Fin 16 => tileTd m d c s

/-- The one call: each SparseCore takes what its 16 tiles work on, each tile its own, and all of it comes back. -/
def P : (K (F := F)).Pay (nD := nD) (Val := Elt F) (Name := ℕ) (U := UU) where
  st := fun q d c => match q with | 0 => coreGo m d (Fin.cast nCore_zero c)
  dn := fun q d c => match q with | 0 => coreTd m d (Fin.cast nCore_zero c)
  go := fun q d c i => match q with | 0 => tileGo m d (Fin.cast nCore_zero c) (Fin.cast nSub_zero i)
  td := fun q d c i => match q with | 0 => tileTd m d (Fin.cast nCore_zero c) (Fin.cast nSub_zero i)
  x := fun _ _ => iprop(emp)

instance P_storable : (P (F := F) m).IsStorable where
  st q d c := match q with
    | 0 => (inferInstance : BI.Storable (upEmb : UEmb _ 𝕄) (coreGo m d (Fin.cast nCore_zero c)))
  dn q d c := match q with
    | 0 => (inferInstance : BI.Storable (upEmb : UEmb _ 𝕄) (coreTd m d (Fin.cast nCore_zero c)))
  go q d c i := match q with
    | 0 => (inferInstance : BI.Storable (upEmb : UEmb _ 𝕄) (tileGo m d (Fin.cast nCore_zero c) (Fin.cast nSub_zero i)))
  td q d c i := match q with
    | 0 => (inferInstance : BI.Storable (upEmb : UEmb _ 𝕄) (tileTd m d (Fin.cast nCore_zero c) (Fin.cast nSub_zero i)))

/-- What the proof asks of the launch memory: every length is at most 50. -/
def PreOK : Prop := ∀ (d : Dev nD) (j : S4096.Idx), (m (lLoc d) j : BitVec 32).toNat ≤ 50

/-! ## A tile's obligation -/

section Obl

variable [FloatOps F]

theorem defs₀_vector (c : Fin τ.nSC) (s : Fin τ.nSub) :
    defs₀ (F := F) (.scVector c s) 0 ()
      = SparseCore.onTile hcore0 hsub0 (fun c s => cc0_fused_gather (coordsV c s)
          xV (Memref.isWhole_whole _) lV (Memref.isWhole_whole _) oV (Memref.isWhole_whole _)
          nV (Memref.isWhole_whole _) iV (Memref.isWhole_whole _) rV (Memref.isWhole_whole _)
          cc0_scratch3 cc0_scratch4 cc0_scratch5 cc0_scratch6 cc0_scratch7 cc0_scratch8 cc0_scratch9 cc0_scratch10
          cc0_scratch11 cc0_scratch12) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (m (lLoc d)) (tab m d) (m (oLoc d)) hF (hpre d) O W hO).trans
    (wp_mono frame _ _ fun _ => obl_post)

/-! ## The call's arrays to the SparseCores and tiles -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show coreGo m d (Fin.cast nCore_zero c) ⊢ |={Set.univ}=> iprop(
      (bigSep Finset.univ fun i : Fin ((K (F := F)).nSub 0) => tileGo m d (Fin.cast nCore_zero c) (Fin.cast nSub_zero i))
      ∗ ((bigSep Finset.univ fun i : Fin ((K (F := F)).nSub 0) => tileTd m d (Fin.cast nCore_zero c) (Fin.cast nSub_zero i))
          -∗ coreTd m d (Fin.cast nCore_zero c)))
  rw [bigSep_tasks (F := F) (fun i => tileGo m d (Fin.cast nCore_zero c) i), bigSep_tasks (F := F) (fun i => tileTd m d (Fin.cast nCore_zero c) i)]
  iintro H; imodintro
  isplitl [H]; · iexact H
  iintro H; iexact H

theorem st0_eq (d : Dev nD) :
    (bigSep Finset.univ fun c : Fin ((K (F := F)).nCore 0) => (P m).st 0 d c)
      = iprop((lLoc d ↦{fullShare} m (lLoc d)) ∗ (xLoc d ↦{fullShare} tab m d) ∗ oLoc d ↦{fullShare} m (oLoc d)) :=
  (bigSep_cores (F := F) (fun c => coreGo m d c)).trans (arrays_tiles d (m (lLoc d)) (tab m d) (m (oLoc d))).symm

theorem dn0_eq (d : Dev nD) :
    (bigSep Finset.univ fun c : Fin ((K (F := F)).nCore 0) => (P m).dn 0 d c)
      = iprop((lLoc d ↦{fullShare} m (lLoc d)) ∗ (xLoc d ↦{fullShare} tab m d) ∗ oLoc d ↦{fullShare} res m d) :=
  (bigSep_cores (F := F) (fun c => coreTd m d c)).trans (arrays_tiles d (m (lLoc d)) (tab m d) (res m d)).symm

/-! ## The launch element of the certificate's ghost state -/

def u₀ : UU := (initOf (K (F := F)).hsCells (K (F := F)).hsToks, 1)

theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## @main on the TensorCore -/

abbrev a' : DevRef τ sig := Proc.devRef .tc (main_arg0 : Ref sig .tc)
abbrev l' : DevRef τ sig := Proc.devRef .tc (main_arg1 : Ref sig .tc)
abbrev t' : DevRef τ sig := Proc.devRef .tc (main_v0 : Ref sig .tc)
abbrev x' : DevRef τ sig := Proc.devRef .tc (main_v1 : Ref sig .tc)
abbrev o' : DevRef τ sig := Proc.devRef .tc (main_v2 : Ref sig .tc)
abbrev opT : HloOp τ sig (Elt F) :=
  StableHlo.unary main_arg0 main_v0 ((transpose S50x4096x128 [1, 0, 2] · transposes_S4096x50x128_S50x4096x128_1_0_2) : (⟨S4096x50x128, .f32⟩ : BufTy).Contents (Elt F) → (⟨S50x4096x128, .f32⟩ : BufTy).Contents (Elt F))
abbrev opR : HloOp τ sig (Elt F) :=
  StableHlo.reshape main_v0 main_v1 (rfl : (.f32 : EltTy) = .f32) shapeCasts_S50x4096x128_S204800x128

/-- The TensorCore's arrays. -/
abbrev S5 : Finset (DevRef τ sig) := {a', l', t', x', o'}

theorem held_S5 (d : Dev nD) (W : Valuation τ sig (Elt F)) :
    (held (T d) S5 W : sProp 𝕄)
      = iprop((aLoc d ↦{fullShare} W a') ∗ (lLoc d ↦{fullShare} W l') ∗ (tLoc d ↦{fullShare} W t') ∗ (xLoc d ↦{fullShare} W x') ∗ oLoc d ↦{fullShare} W o') := by
  unfold held S5
  rw [SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((aLoc d ↦{fullShare} W main_arg0) ∗ (lLoc d ↦{fullShare} W main_arg1) ∗ (tLoc d ↦{fullShare} W main_v0)
          ∗ (xLoc d ↦{fullShare} W main_v1) ∗ oLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The contents at launch, after the transpose, and after the reshape. -/
def V0 (d : Dev nD) : Valuation τ sig (Elt F) := fun b => m (d, b)
abbrev V1 (d : Dev nD) : Valuation τ sig (Elt F) := (opT (F := F)).result (V0 m d)
abbrev V2 (d : Dev nD) : Valuation τ sig (Elt F) := (opR (F := F)).result (V1 m d)

theorem unscoped_held (d : Dev nD) : (unscopedBufs d (fun b => m ((SparseCore.T d).loc b)) : sProp 𝕄) = held (T d) S5 (V0 m d) := by
  rw [unscopedBufs_eq, held_S5]; rfl

theorem V2_other (d : Dev nD) {b : DevRef τ sig} (hx : b ∉ ({x'} : Finset (DevRef τ sig))) (ht : b ∉ ({t'} : Finset (DevRef τ sig))) :
    V2 m d b = m (d, b) := by
  unfold V2 V1
  rw [(opR (F := F)).result_of_not_mem _ hx, (opT (F := F)).result_of_not_mem _ ht]
  rfl

theorem V2_x (d : Dev nD) : V2 m d x' = tab m d := by
  unfold V2 V1
  refine (StableHlo.reshape_result main_v0 main_v1 _ _ _ _ _).trans ?_
  unfold tab table
  rw [show (opT (F := F)).result (V0 m d) t' = _ from StableHlo.unary_result _ _ _ _ _ _]
  rfl

theorem held_V2 (d : Dev nD) :
    (held (T d) S5 (V2 m d) : sProp 𝕄)
      = iprop((aLoc d ↦{fullShare} m (aLoc d)) ∗ (lLoc d ↦{fullShare} m (lLoc d)) ∗ (tLoc d ↦{fullShare} V2 m d t')
          ∗ (xLoc d ↦{fullShare} tab m d) ∗ oLoc d ↦{fullShare} m (oLoc d)) := by
  rw [held_S5, V2_x, V2_other m d (b := a') (by decide) (by decide), V2_other m d (b := l') (by decide) (by decide),
    V2_other m d (b := o') (by decide) (by decide)]

theorem hT : (opT (F := F)).bufs ⊆ S5 := show ({a', t'} : Finset (DevRef τ sig)) ⊆ S5 by decide
theorem hR : (opR (F := F)).bufs ⊆ S5 := show ({t', x'} : Finset (DevRef τ sig)) ⊆ S5 by decide

/-- What @main leaves the claims: the arguments as they were, the result gathered. -/
abbrev FIN (d : Dev nD) : sProp 𝕄 :=
  iprop((aLoc d ↦{fullShare} m (aLoc d)) ∗ (lLoc d ↦{fullShare} m (lLoc d)) ∗ oLoc d ↦{fullShare} res m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opT) (S := S5) hT (V := V0 m d)) $$ [Hb Hheld]
  · isplitl [Hb] <;> iassumption
  iintro ⟨Hb, Hheld⟩
  rw [wp_ret]; imodintro
  iapply (wp_hlo_within 𝒱 (SparseCore.T d) none Set.univ (op := opR) (S := S5) hR (V := V1 m d)) $$ [Hb Hheld]
  · isplitl [Hb] <;> iassumption
  iintro ⟨Hb, Hheld⟩
  rw [wp_ret]; imodintro
  ihave Hh := (Entails.of_eq (held_V2 (F := F) m d)) $$ Hheld
  icases Hh with ⟨Ha, Hl, -, Hx, Ho⟩
  iapply ((K (F := F)).wp_run (D (F := F)) 𝒱 (EH := EH) (P := P m) κ d 0) $$ [Hst Ha Hl Hx Ho Hb Hts]
  isplitr; · iexact Hctx
  isplitl [Hst]; · iexact Hst
  isplitl [Hl Hx Ho]
  · rw [st0_eq]
    isplitl [Hl]; · iexact Hl
    isplitl [Hx]; · iexact Hx
    iexact Ho
  iintro ⟨Hst, Hdn⟩
  ihave Hdn' := (Entails.of_eq (dn0_eq m d)) $$ Hdn
  icases Hdn' with ⟨Hl, -, Ho⟩
  imodintro
  isplitl [Hst]; · iexact Hst
  isplitr [Hb Hts]
  · isplitl [Ha]; · iexact Ha
    isplitl [Hl]; · iexact Hl
    iexact Ho
  isplitl [Hb] <;> iassumption

/-- What the claims read of device `d`'s final memory. -/
def Ends (d : Dev nD) (mem : (ℓ : Loc nD τ sig) → Buf (Elt F) ℓ) : Prop :=
  mem (oLoc d) = res m d ∧ mem (aLoc d) = m (aLoc d) ∧ mem (lLoc d) = m (lLoc d)

set_option maxRecDepth 16384 in
theorem hfin (d : Dev nD) (s' : Phys nD τ sig (Elt F)) : iprop(FIN m d ∗ SI s') ⊢ (⌜Ends m d s'.mem.mem⌝ : sProp 𝕄) := by
  iintro ⟨⟨Ha, Hl, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := lLoc d) (I := Finset.univ) (q := fullShare) (f := m (lLoc d)))) $$ [HSI Hl]
  · isplitl [HSI] <;> iassumption
  icases H with ⟨%h2, HSI, -⟩
  ihave H := (SI_pointsTo_agree (st := s') (ℓ := oLoc d) (I := Finset.univ) (q := fullShare) (f := res m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- Every run ends, the result gathered, the arguments as they were, the counters at zero. -/
theorem run_main [∀ e, Nonempty (Elt F e)] (hpre : PreOK m) :
    θ_run (Cert.KernelIdeal.defs (F := F)) (Cert.KernelIdeal.threads (F := F)) ⟨m, fun _ => 0, ρ⟩
      fun r => (∀ d : Dev nD, Ends m d r.2.mem) ∧ r.2.sem = fun _ => 0 :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fun d s' => Ends m d s'.mem.mem) (hfin m) _ (fun _ h hz => ⟨h, hz⟩)

end Obl

end Cert.Proof.Rows

end
-- ==== Proof.Reference.lean ====
/-
  The reference's result, entry by entry: row `(l + 49) mod 50` of batch row `b`, for a length `l` of at most 50.
-/
module

public import proofs.«01_k».proof.Proof.Gen.ReferenceIdeal
public import proofs.«01_k».proof.Proof.Gen.ReferenceIdeal.Run
public import Idealize.ShloMosaic.Lib.ValueIdx
public import Idealize.ShloMosaic.Lib.ReduceAll
public import Idealize.ShloMosaic.Lib.Pipeline.Value

@[expose] public section

noncomputable section

namespace Cert.Proof.Ref

open Cert.ReferenceIdeal Cert.ReferenceIdeal.Gen
open Idealize.ShloMosaic Idealize.ShloMosaic.ValueIdx Idealize.SL.Sem

variable {F : FTy → Type} [FloatOps F]

/-! ## The index -/

/-- The divisor, as the program spells it. -/
abbrev divisor : IVec S_ 32 := select (cmpi .eq (id (constantI S_ 32 50#32)) (constantI S_ 32 0#32)) (constantI S_ 32 1#32) (id (constantI S_ 32 50#32))

/-- The remainder of `lens - 1` by 50 that has the dividend's sign. -/
abbrev rawRem (lens : IVec S4096 32) : IVec S4096 32 :=
  Host.remsi (subi lens (broadcastInDim S4096 ![] bcast_S_S4096 (constantI S_ 32 1#32))) (broadcastInDim S4096 ![] bcast_S_S4096 divisor)

/-- The remainder that has the divisor's sign. -/
def steps (lens : IVec S4096 32) : IVec S4096 32 :=
  select (andi (cmpi .ne (cmpi .slt (rawRem lens) (broadcastInDim S4096 ![] bcast_S_S4096 (constantI S_ 32 0#32)))
        (broadcastInDim S4096 ![] bcast_S_S4096 (cmpi .slt divisor (constantI S_ 32 0#32))))
      (cmpi .ne (rawRem lens) (broadcastInDim S4096 ![] bcast_S_S4096 (constantI S_ 32 0#32))))
    (addi (rawRem lens) (broadcastInDim S4096 ![] bcast_S_S4096 divisor)) (rawRem lens)

/-- The same as start indices, a negative one counted from the end. -/
def starts (st : IVec S4096 32) : IVec S4096x1x1 32 :=
  select (cmpi .slt (broadcastInDim S4096x1x1 ![0] bcast_S4096_S4096x1x1_0 st) (broadcastInDim S4096x1x1 ![] bcast_S_S4096x1x1 (constantI S_ 32 0#32)))
    (addi (broadcastInDim S4096x1x1 ![0] bcast_S4096_S4096x1x1_0 st) (broadcastInDim S4096x1x1 ![] bcast_S_S4096x1x1 (constantI S_ 32 50#32)))
    (broadcastInDim S4096x1x1 ![0] bcast_S4096_S4096x1x1_0 st)

/-- Whether a start index is a time step. -/
abbrev inside (ix : IVec S4096x1x1 32) : IVec S4096x1x1 1 :=
  andi (cmpi .sge ix (broadcastInDim S4096x1x1 ![] bcast_S_S4096x1x1 (constantI S_ 32 0#32)))
    (cmpi .sle ix (broadcastInDim S4096x1x1 ![0, 1, 2] bcast_S1x1x1_S4096x1x1_0_1_2 (broadcastInDim S1x1x1 ![2] bcast_S1_S1x1x1_2 (constantI S1 32 49#32))))

/-- The gather over start indices, and the mask over it. -/
def picked (xs : S4096x50x128.Idx → F .f32) (ix : IVec S4096x1x1 32) : S4096x128.Idx → F .f32 :=
  shapeCast S4096x128 (select
      (broadcastInDim S4096x1x128 ![0, 1] bcast_S4096x1_S4096x1x128_0_1
        (Host.reduce IntOp.andi (inside ix) (constantI S_ 1 1#1) reducesTo_S4096x1x1_S4096x1_d2 h_S_))
      (Host.gather gather_S4096x50x128_S4096x1x1_S4096x1x128_2_1_0_0_1_2_11128 xs ix)
      (broadcastInDim S4096x1x128 ![] bcast_S_S4096x1x128 (constant S_ .f32 0x7FC00000#32 : FVec F S_ .f32))) shapeCasts_S4096x1x128_S4096x128

set_option maxRecDepth 8192 in
theorem result_eq (m : (ℓ : Loc nD τ sig) → Buf (Elt F) ℓ) (c : Dev nD) :
    Value.res_main_v5 m c
      = picked (m ((c.tc : Thread nD τ).loc main_arg0)) (starts (steps (m ((c.tc : Thread nD τ).loc main_arg1)))) := rfl

/-- The step of one length: every entry is computed from its own length alone. -/
abbrev divisor₁ : BitVec 32 := Scalar.select (IntOp.cmpi .eq 50#32 0#32) 1#32 50#32
abbrev rawRem₁ (l : BitVec 32) : BitVec 32 := IntOp.remsi .host (IntOp.subi l 1#32) divisor₁
def step (l : BitVec 32) : BitVec 32 :=
  Scalar.select (IntOp.andi (IntOp.cmpi .ne (IntOp.cmpi .slt (rawRem₁ l) 0#32) (IntOp.cmpi .slt divisor₁ 0#32)) (IntOp.cmpi .ne (rawRem₁ l) 0#32))
    (IntOp.addi (rawRem₁ l) divisor₁) (rawRem₁ l)

theorem steps_apply (lens : IVec S4096 32) (i : S4096.Idx) : steps lens i = step (lens i) := rfl

theorem step_small : ∀ k : Fin 51, step (BitVec.ofNat 32 k.val) = BitVec.ofNat 32 ((k.val + 49) % 50) := by decide +kernel

theorem step_eq (l : BitVec 32) (h : l.toNat ≤ 50) : step l = BitVec.ofNat 32 ((l.toNat + 49) % 50) := by
  have e := step_small ⟨l.toNat, by omega⟩
  rwa [BitVec.ofNat_toNat, BitVec.setWidth_eq] at e

/-- A time step as a start index. -/
def wrapped (w : BitVec 32) : BitVec 32 := Scalar.select (IntOp.cmpi .slt w 0#32) (IntOp.addi w 50#32) w

theorem wrapped_small : ∀ k : Fin 50, wrapped (BitVec.ofNat 32 k.val) = BitVec.ofNat 32 k.val := by decide +kernel

theorem starts_apply (st : IVec S4096 32) (j : S4096x1x1.Idx) : starts st j = wrapped (st (ix1 (j 0))) := by
  have e : broadcastInDim S4096x1x1 ![0] bcast_S4096_S4096x1x1_0 st j = st (ix1 (j 0)) := by
    refine broadcastInDim_apply ![0] bcast_S4096_S4096x1x1_0 st j (ix1 (j 0)) fun a => ?_
    match a with
    | ⟨0, _⟩ => rfl
  show Scalar.select (IntOp.cmpi .slt (broadcastInDim S4096x1x1 ![0] bcast_S4096_S4096x1x1_0 st j) 0#32)
    (IntOp.addi (broadcastInDim S4096x1x1 ![0] bcast_S4096_S4096x1x1_0 st j) 50#32) (broadcastInDim S4096x1x1 ![0] bcast_S4096_S4096x1x1_0 st j) = _
  rw [e]; rfl

/-- The start index of batch row `j 0`. -/
theorem start_word (lens : IVec S4096 32) (hl : ∀ i, (lens i).toNat ≤ 50) (j : S4096x1x1.Idx) :
    starts (steps lens) j = BitVec.ofNat 32 (((lens (ix1 (j 0))).toNat + 49) % 50) := by
  rw [starts_apply, steps_apply, step_eq _ (hl _)]
  exact wrapped_small ⟨_, Nat.mod_lt _ (by decide)⟩

theorem inside_small : ∀ k : Fin 50,
    IntOp.andi (IntOp.cmpi .sge (BitVec.ofNat 32 k.val) 0#32) (IntOp.cmpi .sle (BitVec.ofNat 32 k.val) 49#32) = 1#1 := by decide +kernel

/-- Every start index is a time step. -/
theorem inside_starts (lens : IVec S4096 32) (hl : ∀ i, (lens i).toNat ≤ 50) (j : S4096x1x1.Idx) : inside (starts (steps lens)) j = 1#1 := by
  show IntOp.andi (IntOp.cmpi .sge (starts (steps lens) j) 0#32) (IntOp.cmpi .sle (starts (steps lens) j) 49#32) = 1#1
  rw [start_word lens hl j]
  exact inside_small ⟨_, Nat.mod_lt _ (by decide)⟩

/-! ## The gather -/

/-- The gather at `(b, 0, k)`: `xs` at the start index of batch row `b`, read signed and clamped into the time steps. -/
theorem gather_at (xs : S4096x50x128.Idx → F .f32) (ix : IVec S4096x1x1 32) (y : S4096x1x128.Idx) :
    Host.gather gather_S4096x50x128_S4096x1x1_S4096x1x128_2_1_0_0_1_2_11128 xs ix y
      = xs (ix3 (y 0) ⟨min (ix (ix3 (y 0) (y 1) 0)).toInt.toNat 49, by omega⟩ (y 2)) := by
  unfold Host.gather
  congr 1
  funext a
  refine Fin.ext ?_
  show GatherDims.start _ y ix a + GatherDims.batchCoord _ y a + GatherDims.offCoord _ y a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.batchCoord_eq_zero _ _ _ (by decide), GatherDims.offCoord_eq_zero _ _ _ (by decide)]
    simp only [Nat.add_zero]
    unfold GatherDims.start
    rw [dif_pos (by decide)]
    have hsi : GatherDims.siIdx gather_S4096x50x128_S4096x1x1_S4096x1x128_2_1_0_0_1_2_11128 y ⟨0, by decide⟩ = ix3 (y 0) (y 1) 0 := by
      funext b; refine Fin.ext ?_
      match b with
      | ⟨0, _⟩ => rfl
      | ⟨1, _⟩ => rfl
      | ⟨2, _⟩ => rfl
    exact congrArg (fun i => min (ix i).toInt.toNat 49) hsi
  · rw [GatherDims.batchCoord_eq_zero _ _ _ (by decide)]
    unfold GatherDims.start
    rw [dif_neg (by decide)]
    simp only [Nat.zero_add]
    unfold GatherDims.offCoord
    rw [dif_pos (by decide)]
    rfl

/-- The reference's result at `(b, k)`. -/
theorem picked_at (xs : S4096x50x128.Idx → F .f32) (lens : IVec S4096 32) (hl : ∀ i, (lens i).toNat ≤ 50) (b : Fin 4096) (k : Fin 128) :
    picked xs (starts (steps lens)) (ix2 b k) = xs (ix3 b ⟨((lens (ix1 b)).toNat + 49) % 50, Nat.mod_lt _ (by decide)⟩ k) := by
  unfold picked
  rw [shapeCast_apply _ shapeCasts_S4096x1x128_S4096x128 (ix2 b k) (ix3 b (0 : Fin 1) k) (by
    rw [Shape.rowMajor_val_three, Shape.rowMajor_val_two]
    show (b.val * 1 + 0) * 128 + k.val = b.val * 128 + k.val
    omega)]
  have hm : broadcastInDim S4096x1x128 ![0, 1] bcast_S4096x1_S4096x1x128_0_1
      (Host.reduce IntOp.andi (inside (starts (steps lens))) (constantI S_ 1 1#1) reducesTo_S4096x1x1_S4096x1_d2 h_S_) (ix3 b (0 : Fin 1) k) = 1#1 :=
    Host.reduce_andi_one _ _ _ _ _ rfl fun i => inside_starts lens hl i
  unfold select Scalar.select
  rw [hm]
  refine (if_pos rfl).trans ?_
  rw [gather_at]
  refine congrArg xs ?_
  have hw : starts (steps lens) (ix3 b 0 0) = BitVec.ofNat 32 (((lens (ix1 b)).toNat + 49) % 50) := start_word lens hl (ix3 b 0 0)
  have h50 : ((lens (ix1 b)).toNat + 49) % 50 < 50 := Nat.mod_lt _ (by decide)
  funext a
  match a with
  | ⟨0, _⟩ => rfl
  | ⟨1, _⟩ =>
    refine Fin.ext ?_
    show min (starts (steps lens) (ix3 b 0 0)).toInt.toNat 49 = ((lens (ix1 b)).toNat + 49) % 50
    rw [hw, BitVec.toInt_eq_toNat_cond, BitVec.toNat_ofNat]
    omega
  | ⟨2, _⟩ => rfl

end Cert.Proof.Ref

end
-- ==== Proof.Equal.lean ====
/-
  The kernel's result is the reference's: both are, at `(b, k)`, the input at row `b`, time step `(l + 49) mod 50`, `k`.
-/
module

public import proofs.«01_k».proof.Proof.Launch
public import proofs.«01_k».proof.Proof.Reference
public import proofs.«01_k».proof.Proof.Gen.Pre_in_range
public import Idealize.ShloMosaic.Lib.ReduceAll

@[expose] public section

noncomputable section

namespace Cert.Proof.Rows

open Cert.KernelIdeal Cert.KernelIdeal.Gen
open Idealize.ShloMosaic Idealize.ShloMosaic.ValueIdx Idealize.SL.Sem

variable {F : FTy → Type}

/-- The table's row `t * 4096 + b` is time step `t` of row `b`. -/
theorem table_at (xs : S4096x50x128.Idx → F .f32) (t : Fin 50) (b : Fin 4096) (k : Fin 128) (r : Fin 204800) (hr : r.val = t.val * 4096 + b.val) :
    table xs (ix2 r k) = xs (ix3 b t k) := by
  unfold table
  rw [shapeCast_apply _ shapeCasts_S50x4096x128_S204800x128 (ix2 r k) (ix3 t b k) (by
    rw [Shape.rowMajor_val_three, Shape.rowMajor_val_two]
    show (t.val * 4096 + b.val) * 128 + k.val = r.val * 128 + k.val
    rw [hr])]
  refine transpose_apply _ _ _ _ (ix3 b t k) fun a => ?_
  match a with
  | ⟨0, _⟩ => rfl
  | ⟨1, _⟩ => rfl
  | ⟨2, _⟩ => rfl

/-- The kernel's result at `(b, k)`. -/
theorem gathered_at (lens : S4096.Idx → BitVec 32) (xs : S4096x50x128.Idx → F .f32) (b : Fin 4096) (k : Fin 128) :
    gathered lens (table xs) (ix2 b k) = xs (ix3 b ⟨((lens (ix1 b)).toNat + 49) % 50, Nat.mod_lt _ (by decide)⟩ k) :=
  table_at xs _ b k _ rfl

theorem gathered_eq [FloatOps F] (lens : S4096.Idx → BitVec 32) (xs : S4096x50x128.Idx → F .f32) (hl : ∀ i, (lens i).toNat ≤ 50) :
    Ref.picked xs (Ref.starts (Ref.steps lens)) = gathered lens (table xs) := by
  funext y
  have e : y = ix2 (y 0) (y 1) := by
    funext a
    match a with
    | ⟨0, _⟩ => rfl
    | ⟨1, _⟩ => rfl
  rw [e]
  exact (Ref.picked_at xs lens hl (y 0) (y 1)).trans (gathered_at lens xs (y 0) (y 1)).symm

/-- The precondition's words: non-negative and at most 50 as signed words, so at most 50. -/
theorem small_of_word (v : BitVec 32) (h : IntOp.andi (IntOp.cmpi .sge v 0#32) (IntOp.cmpi .sle v 50#32) = 1#1) : v.toNat ≤ 50 := by
  obtain ⟨h0, h1⟩ := IntOp.andi_eq_one.1 h
  have ofBool_one : ∀ p : Bool, BitVec.ofBool p = 1#1 → p = true := by decide
  have e0 := ofBool_one _ h0
  have e1 := ofBool_one _ h1
  simp only [BitVec.sle_eq_decide, BitVec.slt_eq_decide, decide_eq_true_eq, BitVec.toInt_eq_toNat_cond, BitVec.toNat_ofNat,
    Nat.reducePow, Nat.reduceMod] at e0 e1
  omega

/-- The precondition on the arguments says that every length is at most 50. -/
theorem small_of_fn [FloatOps F] (xs : S4096x50x128.Idx → F .f32) (lens : S4096.Idx → BitVec 32)
    (h : Cert.Pre_in_range.fn (F := F) xs lens = fun _ => 1#1) (i : S4096.Idx) : (lens i).toNat ≤ 50 := by
  haveI : Subsingleton Cert.Pre_in_range.S_.Idx := ⟨fun a b => funext fun x => x.elim0⟩
  exact small_of_word _ (Host.reduce_andi_all _ _ _ _ ix0 (congrFun h ix0) i)

end Cert.Proof.Rows

end
-- ==== Proof.lean ====
/- The proof of the certificate's claims: the run of the row gather, written once for any float values (Proof/Launch),
   gives both frames of the kernel; the reference's run is the generated one; the two results are equal by
   Proof/Equal. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Equal
public import Idealize.ShloMosaic.Adequacy
public import Idealize.ShloMosaic.Init

@[expose] public section

noncomputable section

namespace Cert.Proof

open Idealize.ShloMosaic Idealize.SL.Sem

/-- The kernel over bit patterns: its text is the ideal kernel's, so the one run serves. -/
theorem frame_kernel : Cert.quiescent_Kernel := fun m ρ hpre =>
  (θ_run (Cert.KernelIdeal.defs (F := Bits)) _ _).mono (fun _ h => ⟨fun c => (h.1 c).2, h.2⟩)
    (Rows.run_main (F := Bits) m ρ fun d j => Rows.small_of_fn _ _ (hpre d) j)

theorem small_ideal {m : (ℓ : Loc Cert.KernelIdeal.nD Cert.KernelIdeal.τ Cert.KernelIdeal.sig) → Buf (Elt Ideal) ℓ} (hpre : Cert.Pre_KernelIdeal m) :
    Rows.PreOK m := fun d j => Rows.small_of_fn _ _ (hpre d) j

theorem frame_ideal : Cert.quiescent_KernelIdeal := fun m ρ hpre =>
  (θ_run (Cert.KernelIdeal.defs (F := Ideal)) _ _).mono (fun _ h => ⟨fun c => (h.1 c).2, h.2⟩) (Rows.run_main (F := Ideal) m ρ (small_ideal hpre))

/-- The reference has no semaphore, so its counters stay at zero. -/
theorem frame_reference : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

theorem equal_results : Cert.algebraic_KernelIdeal_ReferenceIdeal := fun m ρ m' ρ' hpre hagree =>
  ⟨fun c => Rows.res m c,
    (θ_run (Cert.KernelIdeal.defs (F := Ideal)) _ _).mono (fun _ h c => h.1 c) (Rows.run_main (F := Ideal) m ρ (small_ideal hpre)),
    (θ_run (Cert.ReferenceIdeal.defs (F := Ideal)) _ _).mono
      (fun _ h c => ⟨(h c).1.trans (by
        rw [Ref.result_eq, (hagree c).1, (hagree c).2]
        exact Rows.gathered_eq _ _ (small_ideal hpre c)), (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_in_range.Gen.facts,
    frame_kernel, frame_ideal, frame_reference, fun m ρ _ => frame_reference m ρ trivial, trivial, equal_results⟩

end Cert.Proof

end
